-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S2x4096x256 : Shape := ⟨3, ![2, 4096, 256]⟩
abbrev S32x128x256 : Shape := ⟨3, ![32, 128, 256]⟩
abbrev S2 : Shape := ⟨1, ![2]⟩
abbrev S32 : Shape := ⟨1, ![32]⟩
abbrev S_ : Shape := ⟨0, ![]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 5
  | .vmem => 6
  | .smem => 2
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S128x4096, .fp8e4m3⟩
  | .local _ .vmem, ⟨3, _⟩ => ⟨S2x4096x256, .f32⟩
  | .local _ .vmem, ⟨4, _⟩ => ⟨S32x128x256, .bf16⟩
  | .local _ .vmem, ⟨5, _⟩ => ⟨S32x128x256, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 32 := Scalar.addi v2 c1_i32_1
  let c32_i32_2 : BitVec 32 := 32#32
  let c0_i32 : BitVec 32 := 0#32
  let v8 : BitVec 1 := Scalar.cmpi .eq c32_i32_2 c0_i32
  let c1_i32_3 : BitVec 32 := 1#32
  let v9 : BitVec 32 := Scalar.select v8 c1_i32_3 c32_i32_2
  let v10 : BitVec 32 := Scalar.remsi v7 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c1_i32_8 : BitVec 32 := 1#32
  let v18 : BitVec 32 := Scalar.muli v17 c1_i32_8
  let v19 : BitVec 32 := Scalar.addi c0_i32_9 v18
  v19.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v20 : BitVec 32 := Scalar.addi v2 c2_i32
  let c32_i32_10 : BitVec 32 := 32#32
  let c0_i32_11 : BitVec 32 := 0#32
  let v21 : BitVec 1 := Scalar.cmpi .eq c32_i32_10 c0_i32_11
  let c1_i32_12 : BitVec 32 := 1#32
  let v22 : BitVec 32 := Scalar.select v21 c1_i32_12 c32_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c1_i32_17 : BitVec 32 := 1#32
  let v31 : BitVec 32 := Scalar.muli v30 c1_i32_17
  let v32 : BitVec 32 := Scalar.addi c0_i32_18 v31
  v32.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v33 : BitVec 32 := Scalar.addi v2 c3_i32
  let c32_i32_19 : BitVec 32 := 32#32
  let c0_i32_20 : BitVec 32 := 0#32
  let v34 : BitVec 1 := Scalar.cmpi .eq c32_i32_19 c0_i32_20
  let c1_i32_21 : BitVec 32 := 1#32
  let v35 : BitVec 32 := Scalar.select v34 c1_i32_21 c32_i32_19
  let v36 : BitVec 32 := Scalar.remsi v33 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c1_i32_26 : BitVec 32 := 1#32
  let v44 : BitVec 32 := Scalar.muli v43 c1_i32_26
  let v45 : BitVec 32 := Scalar.addi c0_i32_27 v44
  v45.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v46 : BitVec 32 := Scalar.addi v2 c4_i32
  let c32_i32_28 : BitVec 32 := 32#32
  let c0_i32_29 : BitVec 32 := 0#32
  let v47 : BitVec 1 := Scalar.cmpi .eq c32_i32_28 c0_i32_29
  let c1_i32_30 : BitVec 32 := 1#32
  let v48 : BitVec 32 := Scalar.select v47 c1_i32_30 c32_i32_28
  let v49 : BitVec 32 := Scalar.remsi v46 v48
  let c0_i32_32 : BitVec 32 := 0#32
  let v51 : BitVec 1 := Scalar.cmpi .slt v49 c0_i32_32
  let c0_i32_33 : BitVec 32 := 0#32
  let v52 : BitVec 1 := Scalar.cmpi .slt v48 c0_i32_33
  let v53 : BitVec 1 := Scalar.xori v51 v52
  let c0_i32_31 : BitVec 32 := 0#32
  let v50 : BitVec 1 := Scalar.cmpi .ne v49 c0_i32_31
  let v54 : BitVec 1 := Scalar.andi v53 v50
  let v55 : BitVec 32 := Scalar.addi v49 v48
  let v56 : BitVec 32 := Scalar.select v54 v55 v49
  let c1_i32_35 : BitVec 32 := 1#32
  let v57 : BitVec 32 := Scalar.muli v56 c1_i32_35
  let v58 : BitVec 32 := Scalar.addi c0_i32_36 v57
  v58.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v59 : BitVec 32 := Scalar.addi v2 c5_i32
  let c32_i32_37 : BitVec 32 := 32#32
  let c0_i32_38 : BitVec 32 := 0#32
  let v60 : BitVec 1 := Scalar.cmpi .eq c32_i32_37 c0_i32_38
  let c1_i32_39 : BitVec 32 := 1#32
  let v61 : BitVec 32 := Scalar.select v60 c1_i32_39 c32_i32_37
  let v62 : BitVec 32 := Scalar.remsi v59 v61
  let c0_i32_41 : BitVec 32 := 0#32
  let v64 : BitVec 1 := Scalar.cmpi .slt v62 c0_i32_41
  let c0_i32_42 : BitVec 32 := 0#32
  let v65 : BitVec 1 := Scalar.cmpi .slt v61 c0_i32_42
  let v66 : BitVec 1 := Scalar.xori v64 v65
  let c0_i32_40 : BitVec 32 := 0#32
  let v63 : BitVec 1 := Scalar.cmpi .ne v62 c0_i32_40
  let v67 : BitVec 1 := Scalar.andi v66 v63
  let v68 : BitVec 32 := Scalar.addi v62 v61
  let v69 : BitVec 32 := Scalar.select v67 v68 v62
  let c1_i32_44 : BitVec 32 := 1#32
  let v70 : BitVec 32 := Scalar.muli v69 c1_i32_44
  let v71 : BitVec 32 := Scalar.addi c0_i32_45 v70
  v71.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v72 : BitVec 32 := Scalar.addi v2 c6_i32
  let c32_i32_46 : BitVec 32 := 32#32
  let c0_i32_47 : BitVec 32 := 0#32
  let v73 : BitVec 1 := Scalar.cmpi .eq c32_i32_46 c0_i32_47
  let c1_i32_48 : BitVec 32 := 1#32
  let v74 : BitVec 32 := Scalar.select v73 c1_i32_48 c32_i32_46
  let v75 : BitVec 32 := Scalar.remsi v72 v74
  let c0_i32_50 : BitVec 32 := 0#32
  let v77 : BitVec 1 := Scalar.cmpi .slt v75 c0_i32_50
  let c0_i32_51 : BitVec 32 := 0#32
  let v78 : BitVec 1 := Scalar.cmpi .slt v74 c0_i32_51
  let v79 : BitVec 1 := Scalar.xori v77 v78
  let c0_i32_49 : BitVec 32 := 0#32
  let v76 : BitVec 1 := Scalar.cmpi .ne v75 c0_i32_49
  let v80 : BitVec 1 := Scalar.andi v79 v76
  let v81 : BitVec 32 := Scalar.addi v75 v74
  let v82 : BitVec 32 := Scalar.select v80 v81 v75
  let c1_i32_53 : BitVec 32 := 1#32
  let v83 : BitVec 32 := Scalar.muli v82 c1_i32_53
  let v84 : BitVec 32 := Scalar.addi c0_i32_54 v83
  v84.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v85 : BitVec 32 := Scalar.addi v2 c7_i32
  let c32_i32_55 : BitVec 32 := 32#32
  let c0_i32_56 : BitVec 32 := 0#32
  let v86 : BitVec 1 := Scalar.cmpi .eq c32_i32_55 c0_i32_56
  let c1_i32_57 : BitVec 32 := 1#32
  let v87 : BitVec 32 := Scalar.select v86 c1_i32_57 c32_i32_55
  let v88 : BitVec 32 := Scalar.remsi v85 v87
  let c0_i32_59 : BitVec 32 := 0#32
  let v90 : BitVec 1 := Scalar.cmpi .slt v88 c0_i32_59
  let c0_i32_60 : BitVec 32 := 0#32
  let v91 : BitVec 1 := Scalar.cmpi .slt v87 c0_i32_60
  let v92 : BitVec 1 := Scalar.xori v90 v91
  let c0_i32_58 : BitVec 32 := 0#32
  let v89 : BitVec 1 := Scalar.cmpi .ne v88 c0_i32_58
  let v93 : BitVec 1 := Scalar.andi v92 v89
  let v94 : BitVec 32 := Scalar.addi v88 v87
  let v95 : BitVec 32 := Scalar.select v93 v94 v88
  let c1_i32_62 : BitVec 32 := 1#32
  let v96 : BitVec 32 := Scalar.muli v95 c1_i32_62
  let v97 : BitVec 32 := Scalar.addi c0_i32_63 v96
  v97.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v98 : BitVec 32 := Scalar.addi v2 c8_i32
  let c32_i32_64 : BitVec 32 := 32#32
  let c0_i32_65 : BitVec 32 := 0#32
  let v99 : BitVec 1 := Scalar.cmpi .eq c32_i32_64 c0_i32_65
  let c1_i32_66 : BitVec 32 := 1#32
  let v100 : BitVec 32 := Scalar.select v99 c1_i32_66 c32_i32_64
  let v101 : BitVec 32 := Scalar.remsi v98 v100
  let c0_i32_68 : BitVec 32 := 0#32
  let v103 : BitVec 1 := Scalar.cmpi .slt v101 c0_i32_68
  let c0_i32_69 : BitVec 32 := 0#32
  let v104 : BitVec 1 := Scalar.cmpi .slt v100 c0_i32_69
  let v105 : BitVec 1 := Scalar.xori v103 v104
  let c0_i32_67 : BitVec 32 := 0#32
  let v102 : BitVec 1 := Scalar.cmpi .ne v101 c0_i32_67
  let v106 : BitVec 1 := Scalar.andi v105 v102
  let v107 : BitVec 32 := Scalar.addi v101 v100
  let v108 : BitVec 32 := Scalar.select v106 v107 v101
  let c1_i32_71 : BitVec 32 := 1#32
  let v109 : BitVec 32 := Scalar.muli v108 c1_i32_71
  let v110 : BitVec 32 := Scalar.addi c0_i32_72 v109
  v110.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v111 : BitVec 32 := Scalar.addi v2 c9_i32
  let c32_i32_73 : BitVec 32 := 32#32
  let c0_i32_74 : BitVec 32 := 0#32
  let v112 : BitVec 1 := Scalar.cmpi .eq c32_i32_73 c0_i32_74
  let c1_i32_75 : BitVec 32 := 1#32
  let v113 : BitVec 32 := Scalar.select v112 c1_i32_75 c32_i32_73
  let v114 : BitVec 32 := Scalar.remsi v111 v113
  let c0_i32_77 : BitVec 32 := 0#32
  let v116 : BitVec 1 := Scalar.cmpi .slt v114 c0_i32_77
  let c0_i32_78 : BitVec 32 := 0#32
  let v117 : BitVec 1 := Scalar.cmpi .slt v113 c0_i32_78
  let v118 : BitVec 1 := Scalar.xori v116 v117
  let c0_i32_76 : BitVec 32 := 0#32
  let v115 : BitVec 1 := Scalar.cmpi .ne v114 c0_i32_76
  let v119 : BitVec 1 := Scalar.andi v118 v115
  let v120 : BitVec 32 := Scalar.addi v114 v113
  let v121 : BitVec 32 := Scalar.select v119 v120 v114
  let c1_i32_80 : BitVec 32 := 1#32
  let v122 : BitVec 32 := Scalar.muli v121 c1_i32_80
  let v123 : BitVec 32 := Scalar.addi c0_i32_81 v122
  v123.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v124 : BitVec 32 := Scalar.addi v2 c10_i32
  let c32_i32_82 : BitVec 32 := 32#32
  let c0_i32_83 : BitVec 32 := 0#32
  let v125 : BitVec 1 := Scalar.cmpi .eq c32_i32_82 c0_i32_83
  let c1_i32_84 : BitVec 32 := 1#32
  let v126 : BitVec 32 := Scalar.select v125 c1_i32_84 c32_i32_82
  let v127 : BitVec 32 := Scalar.remsi v124 v126
  let c0_i32_86 : BitVec 32 := 0#32
  let v129 : BitVec 1 := Scalar.cmpi .slt v127 c0_i32_86
  let c0_i32_87 : BitVec 32 := 0#32
  let v130 : BitVec 1 := Scalar.cmpi .slt v126 c0_i32_87
  let v131 : BitVec 1 := Scalar.xori v129 v130
  let c0_i32_85 : BitVec 32 := 0#32
  let v128 : BitVec 1 := Scalar.cmpi .ne v127 c0_i32_85
  let v132 : BitVec 1 := Scalar.andi v131 v128
  let v133 : BitVec 32 := Scalar.addi v127 v126
  let v134 : BitVec 32 := Scalar.select v132 v133 v127
  let c1_i32_89 : BitVec 32 := 1#32
  let v135 : BitVec 32 := Scalar.muli v134 c1_i32_89
  let v136 : BitVec 32 := Scalar.addi c0_i32_90 v135
  v136.toNat
def k0_dev11 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v137 : BitVec 32 := Scalar.addi v2 c11_i32
  let c32_i32_91 : BitVec 32 := 32#32
  let c0_i32_92 : BitVec 32 := 0#32
  let v138 : BitVec 1 := Scalar.cmpi .eq c32_i32_91 c0_i32_92
  let c1_i32_93 : BitVec 32 := 1#32
  let v139 : BitVec 32 := Scalar.select v138 c1_i32_93 c32_i32_91
  let v140 : BitVec 32 := Scalar.remsi v137 v139
  let c0_i32_95 : BitVec 32 := 0#32
  let v142 : BitVec 1 := Scalar.cmpi .slt v140 c0_i32_95
  let c0_i32_96 : BitVec 32 := 0#32
  let v143 : BitVec 1 := Scalar.cmpi .slt v139 c0_i32_96
  let v144 : BitVec 1 := Scalar.xori v142 v143
  let c0_i32_94 : BitVec 32 := 0#32
  let v141 : BitVec 1 := Scalar.cmpi .ne v140 c0_i32_94
  let v145 : BitVec 1 := Scalar.andi v144 v141
  let v146 : BitVec 32 := Scalar.addi v140 v139
  let v147 : BitVec 32 := Scalar.select v145 v146 v140
  let c1_i32_98 : BitVec 32 := 1#32
  let v148 : BitVec 32 := Scalar.muli v147 c1_i32_98
  let v149 : BitVec 32 := Scalar.addi c0_i32_99 v148
  v149.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v150 : BitVec 32 := Scalar.addi v2 c12_i32
  let c32_i32_100 : BitVec 32 := 32#32
  let c0_i32_101 : BitVec 32 := 0#32
  let v151 : BitVec 1 := Scalar.cmpi .eq c32_i32_100 c0_i32_101
  let c1_i32_102 : BitVec 32 := 1#32
  let v152 : BitVec 32 := Scalar.select v151 c1_i32_102 c32_i32_100
  let v153 : BitVec 32 := Scalar.remsi v150 v152
  let c0_i32_104 : BitVec 32 := 0#32
  let v155 : BitVec 1 := Scalar.cmpi .slt v153 c0_i32_104
  let c0_i32_105 : BitVec 32 := 0#32
  let v156 : BitVec 1 := Scalar.cmpi .slt v152 c0_i32_105
  let v157 : BitVec 1 := Scalar.xori v155 v156
  let c0_i32_103 : BitVec 32 := 0#32
  let v154 : BitVec 1 := Scalar.cmpi .ne v153 c0_i32_103
  let v158 : BitVec 1 := Scalar.andi v157 v154
  let v159 : BitVec 32 := Scalar.addi v153 v152
  let v160 : BitVec 32 := Scalar.select v158 v159 v153
  let c1_i32_107 : BitVec 32 := 1#32
  let v161 : BitVec 32 := Scalar.muli v160 c1_i32_107
  let v162 : BitVec 32 := Scalar.addi c0_i32_108 v161
  v162.toNat
def k0_dev13 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v163 : BitVec 32 := Scalar.addi v2 c13_i32
  let c32_i32_109 : BitVec 32 := 32#32
  let c0_i32_110 : BitVec 32 := 0#32
  let v164 : BitVec 1 := Scalar.cmpi .eq c32_i32_109 c0_i32_110
  let c1_i32_111 : BitVec 32 := 1#32
  let v165 : BitVec 32 := Scalar.select v164 c1_i32_111 c32_i32_109
  let v166 : BitVec 32 := Scalar.remsi v163 v165
  let c0_i32_113 : BitVec 32 := 0#32
  let v168 : BitVec 1 := Scalar.cmpi .slt v166 c0_i32_113
  let c0_i32_114 : BitVec 32 := 0#32
  let v169 : BitVec 1 := Scalar.cmpi .slt v165 c0_i32_114
  let v170 : BitVec 1 := Scalar.xori v168 v169
  let c0_i32_112 : BitVec 32 := 0#32
  let v167 : BitVec 1 := Scalar.cmpi .ne v166 c0_i32_112
  let v171 : BitVec 1 := Scalar.andi v170 v167
  let v172 : BitVec 32 := Scalar.addi v166 v165
  let v173 : BitVec 32 := Scalar.select v171 v172 v166
  let c1_i32_116 : BitVec 32 := 1#32
  let v174 : BitVec 32 := Scalar.muli v173 c1_i32_116
  let v175 : BitVec 32 := Scalar.addi c0_i32_117 v174
  v175.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v176 : BitVec 32 := Scalar.addi v2 c14_i32
  let c32_i32_118 : BitVec 32 := 32#32
  let c0_i32_119 : BitVec 32 := 0#32
  let v177 : BitVec 1 := Scalar.cmpi .eq c32_i32_118 c0_i32_119
  let c1_i32_120 : BitVec 32 := 1#32
  let v178 : BitVec 32 := Scalar.select v177 c1_i32_120 c32_i32_118
  let v179 : BitVec 32 := Scalar.remsi v176 v178
  let c0_i32_122 : BitVec 32 := 0#32
  let v181 : BitVec 1 := Scalar.cmpi .slt v179 c0_i32_122
  let c0_i32_123 : BitVec 32 := 0#32
  let v182 : BitVec 1 := Scalar.cmpi .slt v178 c0_i32_123
  let v183 : BitVec 1 := Scalar.xori v181 v182
  let c0_i32_121 : BitVec 32 := 0#32
  let v180 : BitVec 1 := Scalar.cmpi .ne v179 c0_i32_121
  let v184 : BitVec 1 := Scalar.andi v183 v180
  let v185 : BitVec 32 := Scalar.addi v179 v178
  let v186 : BitVec 32 := Scalar.select v184 v185 v179
  let c1_i32_125 : BitVec 32 := 1#32
  let v187 : BitVec 32 := Scalar.muli v186 c1_i32_125
  let v188 : BitVec 32 := Scalar.addi c0_i32_126 v187
  v188.toNat
def k0_dev15 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v189 : BitVec 32 := Scalar.addi v2 c15_i32
  let c32_i32_127 : BitVec 32 := 32#32
  let c0_i32_128 : BitVec 32 := 0#32
  let v190 : BitVec 1 := Scalar.cmpi .eq c32_i32_127 c0_i32_128
  let c1_i32_129 : BitVec 32 := 1#32
  let v191 : BitVec 32 := Scalar.select v190 c1_i32_129 c32_i32_127
  let v192 : BitVec 32 := Scalar.remsi v189 v191
  let c0_i32_131 : BitVec 32 := 0#32
  let v194 : BitVec 1 := Scalar.cmpi .slt v192 c0_i32_131
  let c0_i32_132 : BitVec 32 := 0#32
  let v195 : BitVec 1 := Scalar.cmpi .slt v191 c0_i32_132
  let v196 : BitVec 1 := Scalar.xori v194 v195
  let c0_i32_130 : BitVec 32 := 0#32
  let v193 : BitVec 1 := Scalar.cmpi .ne v192 c0_i32_130
  let v197 : BitVec 1 := Scalar.andi v196 v193
  let v198 : BitVec 32 := Scalar.addi v192 v191
  let v199 : BitVec 32 := Scalar.select v197 v198 v192
  let c1_i32_134 : BitVec 32 := 1#32
  let v200 : BitVec 32 := Scalar.muli v199 c1_i32_134
  let v201 : BitVec 32 := Scalar.addi c0_i32_135 v200
  v201.toNat
def k0_dev16 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v202 : BitVec 32 := Scalar.addi v2 c16_i32
  let c32_i32_136 : BitVec 32 := 32#32
  let c0_i32_137 : BitVec 32 := 0#32
  let v203 : BitVec 1 := Scalar.cmpi .eq c32_i32_136 c0_i32_137
  let c1_i32_138 : BitVec 32 := 1#32
  let v204 : BitVec 32 := Scalar.select v203 c1_i32_138 c32_i32_136
  let v205 : BitVec 32 := Scalar.remsi v202 v204
  let c0_i32_140 : BitVec 32 := 0#32
  let v207 : BitVec 1 := Scalar.cmpi .slt v205 c0_i32_140
  let c0_i32_141 : BitVec 32 := 0#32
  let v208 : BitVec 1 := Scalar.cmpi .slt v204 c0_i32_141
  let v209 : BitVec 1 := Scalar.xori v207 v208
  let c0_i32_139 : BitVec 32 := 0#32
  let v206 : BitVec 1 := Scalar.cmpi .ne v205 c0_i32_139
  let v210 : BitVec 1 := Scalar.andi v209 v206
  let v211 : BitVec 32 := Scalar.addi v205 v204
  let v212 : BitVec 32 := Scalar.select v210 v211 v205
  let c1_i32_143 : BitVec 32 := 1#32
  let v213 : BitVec 32 := Scalar.muli v212 c1_i32_143
  let v214 : BitVec 32 := Scalar.addi c0_i32_144 v213
  v214.toNat
def k0_dev17 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v215 : BitVec 32 := Scalar.addi v2 c17_i32
  let c32_i32_145 : BitVec 32 := 32#32
  let c0_i32_146 : BitVec 32 := 0#32
  let v216 : BitVec 1 := Scalar.cmpi .eq c32_i32_145 c0_i32_146
  let c1_i32_147 : BitVec 32 := 1#32
  let v217 : BitVec 32 := Scalar.select v216 c1_i32_147 c32_i32_145
  let v218 : BitVec 32 := Scalar.remsi v215 v217
  let c0_i32_149 : BitVec 32 := 0#32
  let v220 : BitVec 1 := Scalar.cmpi .slt v218 c0_i32_149
  let c0_i32_150 : BitVec 32 := 0#32
  let v221 : BitVec 1 := Scalar.cmpi .slt v217 c0_i32_150
  let v222 : BitVec 1 := Scalar.xori v220 v221
  let c0_i32_148 : BitVec 32 := 0#32
  let v219 : BitVec 1 := Scalar.cmpi .ne v218 c0_i32_148
  let v223 : BitVec 1 := Scalar.andi v222 v219
  let v224 : BitVec 32 := Scalar.addi v218 v217
  let v225 : BitVec 32 := Scalar.select v223 v224 v218
  let c1_i32_152 : BitVec 32 := 1#32
  let v226 : BitVec 32 := Scalar.muli v225 c1_i32_152
  let v227 : BitVec 32 := Scalar.addi c0_i32_153 v226
  v227.toNat
def k0_dev18 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v228 : BitVec 32 := Scalar.addi v2 c18_i32
  let c32_i32_154 : BitVec 32 := 32#32
  let c0_i32_155 : BitVec 32 := 0#32
  let v229 : BitVec 1 := Scalar.cmpi .eq c32_i32_154 c0_i32_155
  let c1_i32_156 : BitVec 32 := 1#32
  let v230 : BitVec 32 := Scalar.select v229 c1_i32_156 c32_i32_154
  let v231 : BitVec 32 := Scalar.remsi v228 v230
  let c0_i32_158 : BitVec 32 := 0#32
  let v233 : BitVec 1 := Scalar.cmpi .slt v231 c0_i32_158
  let c0_i32_159 : BitVec 32 := 0#32
  let v234 : BitVec 1 := Scalar.cmpi .slt v230 c0_i32_159
  let v235 : BitVec 1 := Scalar.xori v233 v234
  let c0_i32_157 : BitVec 32 := 0#32
  let v232 : BitVec 1 := Scalar.cmpi .ne v231 c0_i32_157
  let v236 : BitVec 1 := Scalar.andi v235 v232
  let v237 : BitVec 32 := Scalar.addi v231 v230
  let v238 : BitVec 32 := Scalar.select v236 v237 v231
  let c1_i32_161 : BitVec 32 := 1#32
  let v239 : BitVec 32 := Scalar.muli v238 c1_i32_161
  let v240 : BitVec 32 := Scalar.addi c0_i32_162 v239
  v240.toNat
def k0_dev19 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v241 : BitVec 32 := Scalar.addi v2 c19_i32
  let c32_i32_163 : BitVec 32 := 32#32
  let c0_i32_164 : BitVec 32 := 0#32
  let v242 : BitVec 1 := Scalar.cmpi .eq c32_i32_163 c0_i32_164
  let c1_i32_165 : BitVec 32 := 1#32
  let v243 : BitVec 32 := Scalar.select v242 c1_i32_165 c32_i32_163
  let v244 : BitVec 32 := Scalar.remsi v241 v243
  let c0_i32_167 : BitVec 32 := 0#32
  let v246 : BitVec 1 := Scalar.cmpi .slt v244 c0_i32_167
  let c0_i32_168 : BitVec 32 := 0#32
  let v247 : BitVec 1 := Scalar.cmpi .slt v243 c0_i32_168
  let v248 : BitVec 1 := Scalar.xori v246 v247
  let c0_i32_166 : BitVec 32 := 0#32
  let v245 : BitVec 1 := Scalar.cmpi .ne v244 c0_i32_166
  let v249 : BitVec 1 := Scalar.andi v248 v245
  let v250 : BitVec 32 := Scalar.addi v244 v243
  let v251 : BitVec 32 := Scalar.select v249 v250 v244
  let c1_i32_170 : BitVec 32 := 1#32
  let v252 : BitVec 32 := Scalar.muli v251 c1_i32_170
  let v253 : BitVec 32 := Scalar.addi c0_i32_171 v252
  v253.toNat
def k0_dev20 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v254 : BitVec 32 := Scalar.addi v2 c20_i32
  let c32_i32_172 : BitVec 32 := 32#32
  let c0_i32_173 : BitVec 32 := 0#32
  let v255 : BitVec 1 := Scalar.cmpi .eq c32_i32_172 c0_i32_173
  let c1_i32_174 : BitVec 32 := 1#32
  let v256 : BitVec 32 := Scalar.select v255 c1_i32_174 c32_i32_172
  let v257 : BitVec 32 := Scalar.remsi v254 v256
  let c0_i32_176 : BitVec 32 := 0#32
  let v259 : BitVec 1 := Scalar.cmpi .slt v257 c0_i32_176
  let c0_i32_177 : BitVec 32 := 0#32
  let v260 : BitVec 1 := Scalar.cmpi .slt v256 c0_i32_177
  let v261 : BitVec 1 := Scalar.xori v259 v260
  let c0_i32_175 : BitVec 32 := 0#32
  let v258 : BitVec 1 := Scalar.cmpi .ne v257 c0_i32_175
  let v262 : BitVec 1 := Scalar.andi v261 v258
  let v263 : BitVec 32 := Scalar.addi v257 v256
  let v264 : BitVec 32 := Scalar.select v262 v263 v257
  let c1_i32_179 : BitVec 32 := 1#32
  let v265 : BitVec 32 := Scalar.muli v264 c1_i32_179
  let v266 : BitVec 32 := Scalar.addi c0_i32_180 v265
  v266.toNat
def k0_dev21 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v267 : BitVec 32 := Scalar.addi v2 c21_i32
  let c32_i32_181 : BitVec 32 := 32#32
  let c0_i32_182 : BitVec 32 := 0#32
  let v268 : BitVec 1 := Scalar.cmpi .eq c32_i32_181 c0_i32_182
  let c1_i32_183 : BitVec 32 := 1#32
  let v269 : BitVec 32 := Scalar.select v268 c1_i32_183 c32_i32_181
  let v270 : BitVec 32 := Scalar.remsi v267 v269
  let c0_i32_185 : BitVec 32 := 0#32
  let v272 : BitVec 1 := Scalar.cmpi .slt v270 c0_i32_185
  let c0_i32_186 : BitVec 32 := 0#32
  let v273 : BitVec 1 := Scalar.cmpi .slt v269 c0_i32_186
  let v274 : BitVec 1 := Scalar.xori v272 v273
  let c0_i32_184 : BitVec 32 := 0#32
  let v271 : BitVec 1 := Scalar.cmpi .ne v270 c0_i32_184
  let v275 : BitVec 1 := Scalar.andi v274 v271
  let v276 : BitVec 32 := Scalar.addi v270 v269
  let v277 : BitVec 32 := Scalar.select v275 v276 v270
  let c1_i32_188 : BitVec 32 := 1#32
  let v278 : BitVec 32 := Scalar.muli v277 c1_i32_188
  let v279 : BitVec 32 := Scalar.addi c0_i32_189 v278
  v279.toNat
def k0_dev22 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v280 : BitVec 32 := Scalar.addi v2 c22_i32
  let c32_i32_190 : BitVec 32 := 32#32
  let c0_i32_191 : BitVec 32 := 0#32
  let v281 : BitVec 1 := Scalar.cmpi .eq c32_i32_190 c0_i32_191
  let c1_i32_192 : BitVec 32 := 1#32
  let v282 : BitVec 32 := Scalar.select v281 c1_i32_192 c32_i32_190
  let v283 : BitVec 32 := Scalar.remsi v280 v282
  let c0_i32_194 : BitVec 32 := 0#32
  let v285 : BitVec 1 := Scalar.cmpi .slt v283 c0_i32_194
  let c0_i32_195 : BitVec 32 := 0#32
  let v286 : BitVec 1 := Scalar.cmpi .slt v282 c0_i32_195
  let v287 : BitVec 1 := Scalar.xori v285 v286
  let c0_i32_193 : BitVec 32 := 0#32
  let v284 : BitVec 1 := Scalar.cmpi .ne v283 c0_i32_193
  let v288 : BitVec 1 := Scalar.andi v287 v284
  let v289 : BitVec 32 := Scalar.addi v283 v282
  let v290 : BitVec 32 := Scalar.select v288 v289 v283
  let c1_i32_197 : BitVec 32 := 1#32
  let v291 : BitVec 32 := Scalar.muli v290 c1_i32_197
  let v292 : BitVec 32 := Scalar.addi c0_i32_198 v291
  v292.toNat
def k0_dev23 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v293 : BitVec 32 := Scalar.addi v2 c23_i32
  let c32_i32_199 : BitVec 32 := 32#32
  let c0_i32_200 : BitVec 32 := 0#32
  let v294 : BitVec 1 := Scalar.cmpi .eq c32_i32_199 c0_i32_200
  let c1_i32_201 : BitVec 32 := 1#32
  let v295 : BitVec 32 := Scalar.select v294 c1_i32_201 c32_i32_199
  let v296 : BitVec 32 := Scalar.remsi v293 v295
  let c0_i32_203 : BitVec 32 := 0#32
  let v298 : BitVec 1 := Scalar.cmpi .slt v296 c0_i32_203
  let c0_i32_204 : BitVec 32 := 0#32
  let v299 : BitVec 1 := Scalar.cmpi .slt v295 c0_i32_204
  let v300 : BitVec 1 := Scalar.xori v298 v299
  let c0_i32_202 : BitVec 32 := 0#32
  let v297 : BitVec 1 := Scalar.cmpi .ne v296 c0_i32_202
  let v301 : BitVec 1 := Scalar.andi v300 v297
  let v302 : BitVec 32 := Scalar.addi v296 v295
  let v303 : BitVec 32 := Scalar.select v301 v302 v296
  let c1_i32_206 : BitVec 32 := 1#32
  let v304 : BitVec 32 := Scalar.muli v303 c1_i32_206
  let v305 : BitVec 32 := Scalar.addi c0_i32_207 v304
  v305.toNat
def k0_dev24 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v306 : BitVec 32 := Scalar.addi v2 c24_i32
  let c32_i32_208 : BitVec 32 := 32#32
  let c0_i32_209 : BitVec 32 := 0#32
  let v307 : BitVec 1 := Scalar.cmpi .eq c32_i32_208 c0_i32_209
  let c1_i32_210 : BitVec 32 := 1#32
  let v308 : BitVec 32 := Scalar.select v307 c1_i32_210 c32_i32_208
  let v309 : BitVec 32 := Scalar.remsi v306 v308
  let c0_i32_212 : BitVec 32 := 0#32
  let v311 : BitVec 1 := Scalar.cmpi .slt v309 c0_i32_212
  let c0_i32_213 : BitVec 32 := 0#32
  let v312 : BitVec 1 := Scalar.cmpi .slt v308 c0_i32_213
  let v313 : BitVec 1 := Scalar.xori v311 v312
  let c0_i32_211 : BitVec 32 := 0#32
  let v310 : BitVec 1 := Scalar.cmpi .ne v309 c0_i32_211
  let v314 : BitVec 1 := Scalar.andi v313 v310
  let v315 : BitVec 32 := Scalar.addi v309 v308
  let v316 : BitVec 32 := Scalar.select v314 v315 v309
  let c1_i32_215 : BitVec 32 := 1#32
  let v317 : BitVec 32 := Scalar.muli v316 c1_i32_215
  let v318 : BitVec 32 := Scalar.addi c0_i32_216 v317
  v318.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v319 : BitVec 32 := Scalar.addi v2 c25_i32
  let c32_i32_217 : BitVec 32 := 32#32
  let c0_i32_218 : BitVec 32 := 0#32
  let v320 : BitVec 1 := Scalar.cmpi .eq c32_i32_217 c0_i32_218
  let c1_i32_219 : BitVec 32 := 1#32
  let v321 : BitVec 32 := Scalar.select v320 c1_i32_219 c32_i32_217
  let v322 : BitVec 32 := Scalar.remsi v319 v321
  let c0_i32_221 : BitVec 32 := 0#32
  let v324 : BitVec 1 := Scalar.cmpi .slt v322 c0_i32_221
  let c0_i32_222 : BitVec 32 := 0#32
  let v325 : BitVec 1 := Scalar.cmpi .slt v321 c0_i32_222
  let v326 : BitVec 1 := Scalar.xori v324 v325
  let c0_i32_220 : BitVec 32 := 0#32
  let v323 : BitVec 1 := Scalar.cmpi .ne v322 c0_i32_220
  let v327 : BitVec 1 := Scalar.andi v326 v323
  let v328 : BitVec 32 := Scalar.addi v322 v321
  let v329 : BitVec 32 := Scalar.select v327 v328 v322
  let c1_i32_224 : BitVec 32 := 1#32
  let v330 : BitVec 32 := Scalar.muli v329 c1_i32_224
  let v331 : BitVec 32 := Scalar.addi c0_i32_225 v330
  v331.toNat
def k0_dev26 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v332 : BitVec 32 := Scalar.addi v2 c26_i32
  let c32_i32_226 : BitVec 32 := 32#32
  let c0_i32_227 : BitVec 32 := 0#32
  let v333 : BitVec 1 := Scalar.cmpi .eq c32_i32_226 c0_i32_227
  let c1_i32_228 : BitVec 32 := 1#32
  let v334 : BitVec 32 := Scalar.select v333 c1_i32_228 c32_i32_226
  let v335 : BitVec 32 := Scalar.remsi v332 v334
  let c0_i32_230 : BitVec 32 := 0#32
  let v337 : BitVec 1 := Scalar.cmpi .slt v335 c0_i32_230
  let c0_i32_231 : BitVec 32 := 0#32
  let v338 : BitVec 1 := Scalar.cmpi .slt v334 c0_i32_231
  let v339 : BitVec 1 := Scalar.xori v337 v338
  let c0_i32_229 : BitVec 32 := 0#32
  let v336 : BitVec 1 := Scalar.cmpi .ne v335 c0_i32_229
  let v340 : BitVec 1 := Scalar.andi v339 v336
  let v341 : BitVec 32 := Scalar.addi v335 v334
  let v342 : BitVec 32 := Scalar.select v340 v341 v335
  let c1_i32_233 : BitVec 32 := 1#32
  let v343 : BitVec 32 := Scalar.muli v342 c1_i32_233
  let v344 : BitVec 32 := Scalar.addi c0_i32_234 v343
  v344.toNat
def k0_dev27 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v345 : BitVec 32 := Scalar.addi v2 c27_i32
  let c32_i32_235 : BitVec 32 := 32#32
  let c0_i32_236 : BitVec 32 := 0#32
  let v346 : BitVec 1 := Scalar.cmpi .eq c32_i32_235 c0_i32_236
  let c1_i32_237 : BitVec 32 := 1#32
  let v347 : BitVec 32 := Scalar.select v346 c1_i32_237 c32_i32_235
  let v348 : BitVec 32 := Scalar.remsi v345 v347
  let c0_i32_239 : BitVec 32 := 0#32
  let v350 : BitVec 1 := Scalar.cmpi .slt v348 c0_i32_239
  let c0_i32_240 : BitVec 32 := 0#32
  let v351 : BitVec 1 := Scalar.cmpi .slt v347 c0_i32_240
  let v352 : BitVec 1 := Scalar.xori v350 v351
  let c0_i32_238 : BitVec 32 := 0#32
  let v349 : BitVec 1 := Scalar.cmpi .ne v348 c0_i32_238
  let v353 : BitVec 1 := Scalar.andi v352 v349
  let v354 : BitVec 32 := Scalar.addi v348 v347
  let v355 : BitVec 32 := Scalar.select v353 v354 v348
  let c1_i32_242 : BitVec 32 := 1#32
  let v356 : BitVec 32 := Scalar.muli v355 c1_i32_242
  let v357 : BitVec 32 := Scalar.addi c0_i32_243 v356
  v357.toNat
def k0_dev28 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v358 : BitVec 32 := Scalar.addi v2 c28_i32
  let c32_i32_244 : BitVec 32 := 32#32
  let c0_i32_245 : BitVec 32 := 0#32
  let v359 : BitVec 1 := Scalar.cmpi .eq c32_i32_244 c0_i32_245
  let c1_i32_246 : BitVec 32 := 1#32
  let v360 : BitVec 32 := Scalar.select v359 c1_i32_246 c32_i32_244
  let v361 : BitVec 32 := Scalar.remsi v358 v360
  let c0_i32_248 : BitVec 32 := 0#32
  let v363 : BitVec 1 := Scalar.cmpi .slt v361 c0_i32_248
  let c0_i32_249 : BitVec 32 := 0#32
  let v364 : BitVec 1 := Scalar.cmpi .slt v360 c0_i32_249
  let v365 : BitVec 1 := Scalar.xori v363 v364
  let c0_i32_247 : BitVec 32 := 0#32
  let v362 : BitVec 1 := Scalar.cmpi .ne v361 c0_i32_247
  let v366 : BitVec 1 := Scalar.andi v365 v362
  let v367 : BitVec 32 := Scalar.addi v361 v360
  let v368 : BitVec 32 := Scalar.select v366 v367 v361
  let c1_i32_251 : BitVec 32 := 1#32
  let v369 : BitVec 32 := Scalar.muli v368 c1_i32_251
  let v370 : BitVec 32 := Scalar.addi c0_i32_252 v369
  v370.toNat
def k0_dev29 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v371 : BitVec 32 := Scalar.addi v2 c29_i32
  let c32_i32_253 : BitVec 32 := 32#32
  let c0_i32_254 : BitVec 32 := 0#32
  let v372 : BitVec 1 := Scalar.cmpi .eq c32_i32_253 c0_i32_254
  let c1_i32_255 : BitVec 32 := 1#32
  let v373 : BitVec 32 := Scalar.select v372 c1_i32_255 c32_i32_253
  let v374 : BitVec 32 := Scalar.remsi v371 v373
  let c0_i32_257 : BitVec 32 := 0#32
  let v376 : BitVec 1 := Scalar.cmpi .slt v374 c0_i32_257
  let c0_i32_258 : BitVec 32 := 0#32
  let v377 : BitVec 1 := Scalar.cmpi .slt v373 c0_i32_258
  let v378 : BitVec 1 := Scalar.xori v376 v377
  let c0_i32_256 : BitVec 32 := 0#32
  let v375 : BitVec 1 := Scalar.cmpi .ne v374 c0_i32_256
  let v379 : BitVec 1 := Scalar.andi v378 v375
  let v380 : BitVec 32 := Scalar.addi v374 v373
  let v381 : BitVec 32 := Scalar.select v379 v380 v374
  let c1_i32_260 : BitVec 32 := 1#32
  let v382 : BitVec 32 := Scalar.muli v381 c1_i32_260
  let v383 : BitVec 32 := Scalar.addi c0_i32_261 v382
  v383.toNat
def k0_dev30 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v384 : BitVec 32 := Scalar.addi v2 c30_i32
  let c32_i32_262 : BitVec 32 := 32#32
  let c0_i32_263 : BitVec 32 := 0#32
  let v385 : BitVec 1 := Scalar.cmpi .eq c32_i32_262 c0_i32_263
  let c1_i32_264 : BitVec 32 := 1#32
  let v386 : BitVec 32 := Scalar.select v385 c1_i32_264 c32_i32_262
  let v387 : BitVec 32 := Scalar.remsi v384 v386
  let c0_i32_266 : BitVec 32 := 0#32
  let v389 : BitVec 1 := Scalar.cmpi .slt v387 c0_i32_266
  let c0_i32_267 : BitVec 32 := 0#32
  let v390 : BitVec 1 := Scalar.cmpi .slt v386 c0_i32_267
  let v391 : BitVec 1 := Scalar.xori v389 v390
  let c0_i32_265 : BitVec 32 := 0#32
  let v388 : BitVec 1 := Scalar.cmpi .ne v387 c0_i32_265
  let v392 : BitVec 1 := Scalar.andi v391 v388
  let v393 : BitVec 32 := Scalar.addi v387 v386
  let v394 : BitVec 32 := Scalar.select v392 v393 v387
  let c1_i32_269 : BitVec 32 := 1#32
  let v395 : BitVec 32 := Scalar.muli v394 c1_i32_269
  let v396 : BitVec 32 := Scalar.addi c0_i32_270 v395
  v396.toNat
def k0_dev31 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v397 : BitVec 32 := Scalar.addi v2 c31_i32
  let c32_i32_271 : BitVec 32 := 32#32
  let c0_i32_272 : BitVec 32 := 0#32
  let v398 : BitVec 1 := Scalar.cmpi .eq c32_i32_271 c0_i32_272
  let c1_i32_273 : BitVec 32 := 1#32
  let v399 : BitVec 32 := Scalar.select v398 c1_i32_273 c32_i32_271
  let v400 : BitVec 32 := Scalar.remsi v397 v399
  let c0_i32_275 : BitVec 32 := 0#32
  let v402 : BitVec 1 := Scalar.cmpi .slt v400 c0_i32_275
  let c0_i32_276 : BitVec 32 := 0#32
  let v403 : BitVec 1 := Scalar.cmpi .slt v399 c0_i32_276
  let v404 : BitVec 1 := Scalar.xori v402 v403
  let c0_i32_274 : BitVec 32 := 0#32
  let v401 : BitVec 1 := Scalar.cmpi .ne v400 c0_i32_274
  let v405 : BitVec 1 := Scalar.andi v404 v401
  let v406 : BitVec 32 := Scalar.addi v400 v399
  let v407 : BitVec 32 := Scalar.select v405 v406 v400
  let c1_i32_278 : BitVec 32 := 1#32
  let v408 : BitVec 32 := Scalar.muli v407 c1_i32_278
  let v409 : BitVec 32 := Scalar.addi c0_i32_279 v408
  v409.toNat
def k0_off1 (d0 : Dev nD) (c0_i32_285 : BitVec 32) : Fin 2 → Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v416 : BitVec 32 := Scalar.addi v2 c0_i32_285
  let c32_i32_286 : BitVec 32 := 32#32
  let c0_i32_287 : BitVec 32 := 0#32
  let v417 : BitVec 1 := Scalar.cmpi .eq c32_i32_286 c0_i32_287
  let c1_i32_288 : BitVec 32 := 1#32
  let v418 : BitVec 32 := Scalar.select v417 c1_i32_288 c32_i32_286
  let v419 : BitVec 32 := Scalar.remsi v416 v418
  let c0_i32_290 : BitVec 32 := 0#32
  let v421 : BitVec 1 := Scalar.cmpi .slt v419 c0_i32_290
  let c0_i32_291 : BitVec 32 := 0#32
  let v422 : BitVec 1 := Scalar.cmpi .slt v418 c0_i32_291
  let v423 : BitVec 1 := Scalar.xori v421 v422
  let c0_i32_289 : BitVec 32 := 0#32
  let v420 : BitVec 1 := Scalar.cmpi .ne v419 c0_i32_289
  let v424 : BitVec 1 := Scalar.andi v423 v420
  let v425 : BitVec 32 := Scalar.addi v419 v418
  let v426 : BitVec 32 := Scalar.select v424 v425 v419
  let c256_i32 : BitVec 32 := 256#32
  let v427 : BitVec 32 := Scalar.muli v426 c256_i32
  ![0, v427.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v477 : Index := Scalar.indexCast v2
  let c0_329 : Index := 0#32
  let c0_330 : Index := 0#32
  ![v477.toNat, 0, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_377 : BitVec 32 := 0#32
  let c0_i32_378 : BitVec 32 := 0#32
  ![v2.toNat, 0, 0]
def k0_dev32 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_357 : BitVec 32 := 1#32
  let v515 : BitVec 32 := Scalar.addi v2 c1_i32_357
  let c32_i32_358 : BitVec 32 := 32#32
  let c0_i32_359 : BitVec 32 := 0#32
  let v516 : BitVec 1 := Scalar.cmpi .eq c32_i32_358 c0_i32_359
  let c1_i32_360 : BitVec 32 := 1#32
  let v517 : BitVec 32 := Scalar.select v516 c1_i32_360 c32_i32_358
  let v518 : BitVec 32 := Scalar.remsi v515 v517
  let c0_i32_362 : BitVec 32 := 0#32
  let v520 : BitVec 1 := Scalar.cmpi .slt v518 c0_i32_362
  let c0_i32_363 : BitVec 32 := 0#32
  let v521 : BitVec 1 := Scalar.cmpi .slt v517 c0_i32_363
  let v522 : BitVec 1 := Scalar.xori v520 v521
  let c0_i32_361 : BitVec 32 := 0#32
  let v519 : BitVec 1 := Scalar.cmpi .ne v518 c0_i32_361
  let v523 : BitVec 1 := Scalar.andi v522 v519
  let v524 : BitVec 32 := Scalar.addi v518 v517
  let v525 : BitVec 32 := Scalar.select v523 v524 v518
  let c1_i32_375 : BitVec 32 := 1#32
  let v539 : BitVec 32 := Scalar.muli v525 c1_i32_375
  let v540 : BitVec 32 := Scalar.addi c0_i32_376 v539
  v540.toNat
def k0_dev33 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_407 : BitVec 32 := 2#32
  let v583 : BitVec 32 := Scalar.addi v2 c2_i32_407
  let c32_i32_408 : BitVec 32 := 32#32
  let c0_i32_409 : BitVec 32 := 0#32
  let v584 : BitVec 1 := Scalar.cmpi .eq c32_i32_408 c0_i32_409
  let c1_i32_410 : BitVec 32 := 1#32
  let v585 : BitVec 32 := Scalar.select v584 c1_i32_410 c32_i32_408
  let v586 : BitVec 32 := Scalar.remsi v583 v585
  let c0_i32_412 : BitVec 32 := 0#32
  let v588 : BitVec 1 := Scalar.cmpi .slt v586 c0_i32_412
  let c0_i32_413 : BitVec 32 := 0#32
  let v589 : BitVec 1 := Scalar.cmpi .slt v585 c0_i32_413
  let v590 : BitVec 1 := Scalar.xori v588 v589
  let c0_i32_411 : BitVec 32 := 0#32
  let v587 : BitVec 1 := Scalar.cmpi .ne v586 c0_i32_411
  let v591 : BitVec 1 := Scalar.andi v590 v587
  let v592 : BitVec 32 := Scalar.addi v586 v585
  let v593 : BitVec 32 := Scalar.select v591 v592 v586
  let c1_i32_425 : BitVec 32 := 1#32
  let v607 : BitVec 32 := Scalar.muli v593 c1_i32_425
  let v608 : BitVec 32 := Scalar.addi c0_i32_426 v607
  v608.toNat
def k0_dev34 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_457 : BitVec 32 := 3#32
  let v651 : BitVec 32 := Scalar.addi v2 c3_i32_457
  let c32_i32_458 : BitVec 32 := 32#32
  let c0_i32_459 : BitVec 32 := 0#32
  let v652 : BitVec 1 := Scalar.cmpi .eq c32_i32_458 c0_i32_459
  let c1_i32_460 : BitVec 32 := 1#32
  let v653 : BitVec 32 := Scalar.select v652 c1_i32_460 c32_i32_458
  let v654 : BitVec 32 := Scalar.remsi v651 v653
  let c0_i32_462 : BitVec 32 := 0#32
  let v656 : BitVec 1 := Scalar.cmpi .slt v654 c0_i32_462
  let c0_i32_463 : BitVec 32 := 0#32
  let v657 : BitVec 1 := Scalar.cmpi .slt v653 c0_i32_463
  let v658 : BitVec 1 := Scalar.xori v656 v657
  let c0_i32_461 : BitVec 32 := 0#32
  let v655 : BitVec 1 := Scalar.cmpi .ne v654 c0_i32_461
  let v659 : BitVec 1 := Scalar.andi v658 v655
  let v660 : BitVec 32 := Scalar.addi v654 v653
  let v661 : BitVec 32 := Scalar.select v659 v660 v654
  let c1_i32_475 : BitVec 32 := 1#32
  let v675 : BitVec 32 := Scalar.muli v661 c1_i32_475
  let v676 : BitVec 32 := Scalar.addi c0_i32_476 v675
  v676.toNat
def k0_dev35 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_507 : BitVec 32 := 4#32
  let v719 : BitVec 32 := Scalar.addi v2 c4_i32_507
  let c32_i32_508 : BitVec 32 := 32#32
  let c0_i32_509 : BitVec 32 := 0#32
  let v720 : BitVec 1 := Scalar.cmpi .eq c32_i32_508 c0_i32_509
  let c1_i32_510 : BitVec 32 := 1#32
  let v721 : BitVec 32 := Scalar.select v720 c1_i32_510 c32_i32_508
  let v722 : BitVec 32 := Scalar.remsi v719 v721
  let c0_i32_512 : BitVec 32 := 0#32
  let v724 : BitVec 1 := Scalar.cmpi .slt v722 c0_i32_512
  let c0_i32_513 : BitVec 32 := 0#32
  let v725 : BitVec 1 := Scalar.cmpi .slt v721 c0_i32_513
  let v726 : BitVec 1 := Scalar.xori v724 v725
  let c0_i32_511 : BitVec 32 := 0#32
  let v723 : BitVec 1 := Scalar.cmpi .ne v722 c0_i32_511
  let v727 : BitVec 1 := Scalar.andi v726 v723
  let v728 : BitVec 32 := Scalar.addi v722 v721
  let v729 : BitVec 32 := Scalar.select v727 v728 v722
  let c1_i32_525 : BitVec 32 := 1#32
  let v743 : BitVec 32 := Scalar.muli v729 c1_i32_525
  let v744 : BitVec 32 := Scalar.addi c0_i32_526 v743
  v744.toNat
def k0_dev36 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_557 : BitVec 32 := 5#32
  let v787 : BitVec 32 := Scalar.addi v2 c5_i32_557
  let c32_i32_558 : BitVec 32 := 32#32
  let c0_i32_559 : BitVec 32 := 0#32
  let v788 : BitVec 1 := Scalar.cmpi .eq c32_i32_558 c0_i32_559
  let c1_i32_560 : BitVec 32 := 1#32
  let v789 : BitVec 32 := Scalar.select v788 c1_i32_560 c32_i32_558
  let v790 : BitVec 32 := Scalar.remsi v787 v789
  let c0_i32_562 : BitVec 32 := 0#32
  let v792 : BitVec 1 := Scalar.cmpi .slt v790 c0_i32_562
  let c0_i32_563 : BitVec 32 := 0#32
  let v793 : BitVec 1 := Scalar.cmpi .slt v789 c0_i32_563
  let v794 : BitVec 1 := Scalar.xori v792 v793
  let c0_i32_561 : BitVec 32 := 0#32
  let v791 : BitVec 1 := Scalar.cmpi .ne v790 c0_i32_561
  let v795 : BitVec 1 := Scalar.andi v794 v791
  let v796 : BitVec 32 := Scalar.addi v790 v789
  let v797 : BitVec 32 := Scalar.select v795 v796 v790
  let c1_i32_575 : BitVec 32 := 1#32
  let v811 : BitVec 32 := Scalar.muli v797 c1_i32_575
  let v812 : BitVec 32 := Scalar.addi c0_i32_576 v811
  v812.toNat
def k0_dev37 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_607 : BitVec 32 := 6#32
  let v855 : BitVec 32 := Scalar.addi v2 c6_i32_607
  let c32_i32_608 : BitVec 32 := 32#32
  let c0_i32_609 : BitVec 32 := 0#32
  let v856 : BitVec 1 := Scalar.cmpi .eq c32_i32_608 c0_i32_609
  let c1_i32_610 : BitVec 32 := 1#32
  let v857 : BitVec 32 := Scalar.select v856 c1_i32_610 c32_i32_608
  let v858 : BitVec 32 := Scalar.remsi v855 v857
  let c0_i32_612 : BitVec 32 := 0#32
  let v860 : BitVec 1 := Scalar.cmpi .slt v858 c0_i32_612
  let c0_i32_613 : BitVec 32 := 0#32
  let v861 : BitVec 1 := Scalar.cmpi .slt v857 c0_i32_613
  let v862 : BitVec 1 := Scalar.xori v860 v861
  let c0_i32_611 : BitVec 32 := 0#32
  let v859 : BitVec 1 := Scalar.cmpi .ne v858 c0_i32_611
  let v863 : BitVec 1 := Scalar.andi v862 v859
  let v864 : BitVec 32 := Scalar.addi v858 v857
  let v865 : BitVec 32 := Scalar.select v863 v864 v858
  let c1_i32_625 : BitVec 32 := 1#32
  let v879 : BitVec 32 := Scalar.muli v865 c1_i32_625
  let v880 : BitVec 32 := Scalar.addi c0_i32_626 v879
  v880.toNat
def k0_dev38 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_657 : BitVec 32 := 7#32
  let v923 : BitVec 32 := Scalar.addi v2 c7_i32_657
  let c32_i32_658 : BitVec 32 := 32#32
  let c0_i32_659 : BitVec 32 := 0#32
  let v924 : BitVec 1 := Scalar.cmpi .eq c32_i32_658 c0_i32_659
  let c1_i32_660 : BitVec 32 := 1#32
  let v925 : BitVec 32 := Scalar.select v924 c1_i32_660 c32_i32_658
  let v926 : BitVec 32 := Scalar.remsi v923 v925
  let c0_i32_662 : BitVec 32 := 0#32
  let v928 : BitVec 1 := Scalar.cmpi .slt v926 c0_i32_662
  let c0_i32_663 : BitVec 32 := 0#32
  let v929 : BitVec 1 := Scalar.cmpi .slt v925 c0_i32_663
  let v930 : BitVec 1 := Scalar.xori v928 v929
  let c0_i32_661 : BitVec 32 := 0#32
  let v927 : BitVec 1 := Scalar.cmpi .ne v926 c0_i32_661
  let v931 : BitVec 1 := Scalar.andi v930 v927
  let v932 : BitVec 32 := Scalar.addi v926 v925
  let v933 : BitVec 32 := Scalar.select v931 v932 v926
  let c1_i32_675 : BitVec 32 := 1#32
  let v947 : BitVec 32 := Scalar.muli v933 c1_i32_675
  let v948 : BitVec 32 := Scalar.addi c0_i32_676 v947
  v948.toNat
def k0_dev39 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_707 : BitVec 32 := 8#32
  let v991 : BitVec 32 := Scalar.addi v2 c8_i32_707
  let c32_i32_708 : BitVec 32 := 32#32
  let c0_i32_709 : BitVec 32 := 0#32
  let v992 : BitVec 1 := Scalar.cmpi .eq c32_i32_708 c0_i32_709
  let c1_i32_710 : BitVec 32 := 1#32
  let v993 : BitVec 32 := Scalar.select v992 c1_i32_710 c32_i32_708
  let v994 : BitVec 32 := Scalar.remsi v991 v993
  let c0_i32_712 : BitVec 32 := 0#32
  let v996 : BitVec 1 := Scalar.cmpi .slt v994 c0_i32_712
  let c0_i32_713 : BitVec 32 := 0#32
  let v997 : BitVec 1 := Scalar.cmpi .slt v993 c0_i32_713
  let v998 : BitVec 1 := Scalar.xori v996 v997
  let c0_i32_711 : BitVec 32 := 0#32
  let v995 : BitVec 1 := Scalar.cmpi .ne v994 c0_i32_711
  let v999 : BitVec 1 := Scalar.andi v998 v995
  let v1000 : BitVec 32 := Scalar.addi v994 v993
  let v1001 : BitVec 32 := Scalar.select v999 v1000 v994
  let c1_i32_725 : BitVec 32 := 1#32
  let v1015 : BitVec 32 := Scalar.muli v1001 c1_i32_725
  let v1016 : BitVec 32 := Scalar.addi c0_i32_726 v1015
  v1016.toNat
def k0_dev40 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_757 : BitVec 32 := 9#32
  let v1059 : BitVec 32 := Scalar.addi v2 c9_i32_757
  let c32_i32_758 : BitVec 32 := 32#32
  let c0_i32_759 : BitVec 32 := 0#32
  let v1060 : BitVec 1 := Scalar.cmpi .eq c32_i32_758 c0_i32_759
  let c1_i32_760 : BitVec 32 := 1#32
  let v1061 : BitVec 32 := Scalar.select v1060 c1_i32_760 c32_i32_758
  let v1062 : BitVec 32 := Scalar.remsi v1059 v1061
  let c0_i32_762 : BitVec 32 := 0#32
  let v1064 : BitVec 1 := Scalar.cmpi .slt v1062 c0_i32_762
  let c0_i32_763 : BitVec 32 := 0#32
  let v1065 : BitVec 1 := Scalar.cmpi .slt v1061 c0_i32_763
  let v1066 : BitVec 1 := Scalar.xori v1064 v1065
  let c0_i32_761 : BitVec 32 := 0#32
  let v1063 : BitVec 1 := Scalar.cmpi .ne v1062 c0_i32_761
  let v1067 : BitVec 1 := Scalar.andi v1066 v1063
  let v1068 : BitVec 32 := Scalar.addi v1062 v1061
  let v1069 : BitVec 32 := Scalar.select v1067 v1068 v1062
  let c1_i32_775 : BitVec 32 := 1#32
  let v1083 : BitVec 32 := Scalar.muli v1069 c1_i32_775
  let v1084 : BitVec 32 := Scalar.addi c0_i32_776 v1083
  v1084.toNat
def k0_dev41 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_807 : BitVec 32 := 10#32
  let v1127 : BitVec 32 := Scalar.addi v2 c10_i32_807
  let c32_i32_808 : BitVec 32 := 32#32
  let c0_i32_809 : BitVec 32 := 0#32
  let v1128 : BitVec 1 := Scalar.cmpi .eq c32_i32_808 c0_i32_809
  let c1_i32_810 : BitVec 32 := 1#32
  let v1129 : BitVec 32 := Scalar.select v1128 c1_i32_810 c32_i32_808
  let v1130 : BitVec 32 := Scalar.remsi v1127 v1129
  let c0_i32_812 : BitVec 32 := 0#32
  let v1132 : BitVec 1 := Scalar.cmpi .slt v1130 c0_i32_812
  let c0_i32_813 : BitVec 32 := 0#32
  let v1133 : BitVec 1 := Scalar.cmpi .slt v1129 c0_i32_813
  let v1134 : BitVec 1 := Scalar.xori v1132 v1133
  let c0_i32_811 : BitVec 32 := 0#32
  let v1131 : BitVec 1 := Scalar.cmpi .ne v1130 c0_i32_811
  let v1135 : BitVec 1 := Scalar.andi v1134 v1131
  let v1136 : BitVec 32 := Scalar.addi v1130 v1129
  let v1137 : BitVec 32 := Scalar.select v1135 v1136 v1130
  let c1_i32_825 : BitVec 32 := 1#32
  let v1151 : BitVec 32 := Scalar.muli v1137 c1_i32_825
  let v1152 : BitVec 32 := Scalar.addi c0_i32_826 v1151
  v1152.toNat
def k0_dev42 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_857 : BitVec 32 := 11#32
  let v1195 : BitVec 32 := Scalar.addi v2 c11_i32_857
  let c32_i32_858 : BitVec 32 := 32#32
  let c0_i32_859 : BitVec 32 := 0#32
  let v1196 : BitVec 1 := Scalar.cmpi .eq c32_i32_858 c0_i32_859
  let c1_i32_860 : BitVec 32 := 1#32
  let v1197 : BitVec 32 := Scalar.select v1196 c1_i32_860 c32_i32_858
  let v1198 : BitVec 32 := Scalar.remsi v1195 v1197
  let c0_i32_862 : BitVec 32 := 0#32
  let v1200 : BitVec 1 := Scalar.cmpi .slt v1198 c0_i32_862
  let c0_i32_863 : BitVec 32 := 0#32
  let v1201 : BitVec 1 := Scalar.cmpi .slt v1197 c0_i32_863
  let v1202 : BitVec 1 := Scalar.xori v1200 v1201
  let c0_i32_861 : BitVec 32 := 0#32
  let v1199 : BitVec 1 := Scalar.cmpi .ne v1198 c0_i32_861
  let v1203 : BitVec 1 := Scalar.andi v1202 v1199
  let v1204 : BitVec 32 := Scalar.addi v1198 v1197
  let v1205 : BitVec 32 := Scalar.select v1203 v1204 v1198
  let c1_i32_875 : BitVec 32 := 1#32
  let v1219 : BitVec 32 := Scalar.muli v1205 c1_i32_875
  let v1220 : BitVec 32 := Scalar.addi c0_i32_876 v1219
  v1220.toNat
def k0_dev43 (d0 : Dev nD) : Nat :=
  let c0_i32_926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_907 : BitVec 32 := 12#32
  let v1263 : BitVec 32 := Scalar.addi v2 c12_i32_907
  let c32_i32_908 : BitVec 32 := 32#32
  let c0_i32_909 : BitVec 32 := 0#32
  let v1264 : BitVec 1 := Scalar.cmpi .eq c32_i32_908 c0_i32_909
  let c1_i32_910 : BitVec 32 := 1#32
  let v1265 : BitVec 32 := Scalar.select v1264 c1_i32_910 c32_i32_908
  let v1266 : BitVec 32 := Scalar.remsi v1263 v1265
  let c0_i32_912 : BitVec 32 := 0#32
  let v1268 : BitVec 1 := Scalar.cmpi .slt v1266 c0_i32_912
  let c0_i32_913 : BitVec 32 := 0#32
  let v1269 : BitVec 1 := Scalar.cmpi .slt v1265 c0_i32_913
  let v1270 : BitVec 1 := Scalar.xori v1268 v1269
  let c0_i32_911 : BitVec 32 := 0#32
  let v1267 : BitVec 1 := Scalar.cmpi .ne v1266 c0_i32_911
  let v1271 : BitVec 1 := Scalar.andi v1270 v1267
  let v1272 : BitVec 32 := Scalar.addi v1266 v1265
  let v1273 : BitVec 32 := Scalar.select v1271 v1272 v1266
  let c1_i32_925 : BitVec 32 := 1#32
  let v1287 : BitVec 32 := Scalar.muli v1273 c1_i32_925
  let v1288 : BitVec 32 := Scalar.addi c0_i32_926 v1287
  v1288.toNat
def k0_dev44 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_957 : BitVec 32 := 13#32
  let v1331 : BitVec 32 := Scalar.addi v2 c13_i32_957
  let c32_i32_958 : BitVec 32 := 32#32
  let c0_i32_959 : BitVec 32 := 0#32
  let v1332 : BitVec 1 := Scalar.cmpi .eq c32_i32_958 c0_i32_959
  let c1_i32_960 : BitVec 32 := 1#32
  let v1333 : BitVec 32 := Scalar.select v1332 c1_i32_960 c32_i32_958
  let v1334 : BitVec 32 := Scalar.remsi v1331 v1333
  let c0_i32_962 : BitVec 32 := 0#32
  let v1336 : BitVec 1 := Scalar.cmpi .slt v1334 c0_i32_962
  let c0_i32_963 : BitVec 32 := 0#32
  let v1337 : BitVec 1 := Scalar.cmpi .slt v1333 c0_i32_963
  let v1338 : BitVec 1 := Scalar.xori v1336 v1337
  let c0_i32_961 : BitVec 32 := 0#32
  let v1335 : BitVec 1 := Scalar.cmpi .ne v1334 c0_i32_961
  let v1339 : BitVec 1 := Scalar.andi v1338 v1335
  let v1340 : BitVec 32 := Scalar.addi v1334 v1333
  let v1341 : BitVec 32 := Scalar.select v1339 v1340 v1334
  let c1_i32_975 : BitVec 32 := 1#32
  let v1355 : BitVec 32 := Scalar.muli v1341 c1_i32_975
  let v1356 : BitVec 32 := Scalar.addi c0_i32_976 v1355
  v1356.toNat
def k0_dev45 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1007 : BitVec 32 := 14#32
  let v1399 : BitVec 32 := Scalar.addi v2 c14_i32_1007
  let c32_i32_1008 : BitVec 32 := 32#32
  let c0_i32_1009 : BitVec 32 := 0#32
  let v1400 : BitVec 1 := Scalar.cmpi .eq c32_i32_1008 c0_i32_1009
  let c1_i32_1010 : BitVec 32 := 1#32
  let v1401 : BitVec 32 := Scalar.select v1400 c1_i32_1010 c32_i32_1008
  let v1402 : BitVec 32 := Scalar.remsi v1399 v1401
  let c0_i32_1012 : BitVec 32 := 0#32
  let v1404 : BitVec 1 := Scalar.cmpi .slt v1402 c0_i32_1012
  let c0_i32_1013 : BitVec 32 := 0#32
  let v1405 : BitVec 1 := Scalar.cmpi .slt v1401 c0_i32_1013
  let v1406 : BitVec 1 := Scalar.xori v1404 v1405
  let c0_i32_1011 : BitVec 32 := 0#32
  let v1403 : BitVec 1 := Scalar.cmpi .ne v1402 c0_i32_1011
  let v1407 : BitVec 1 := Scalar.andi v1406 v1403
  let v1408 : BitVec 32 := Scalar.addi v1402 v1401
  let v1409 : BitVec 32 := Scalar.select v1407 v1408 v1402
  let c1_i32_1025 : BitVec 32 := 1#32
  let v1423 : BitVec 32 := Scalar.muli v1409 c1_i32_1025
  let v1424 : BitVec 32 := Scalar.addi c0_i32_1026 v1423
  v1424.toNat
def k0_dev46 (d0 : Dev nD) : Nat :=
  let c0_i32_1076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1057 : BitVec 32 := 15#32
  let v1467 : BitVec 32 := Scalar.addi v2 c15_i32_1057
  let c32_i32_1058 : BitVec 32 := 32#32
  let c0_i32_1059 : BitVec 32 := 0#32
  let v1468 : BitVec 1 := Scalar.cmpi .eq c32_i32_1058 c0_i32_1059
  let c1_i32_1060 : BitVec 32 := 1#32
  let v1469 : BitVec 32 := Scalar.select v1468 c1_i32_1060 c32_i32_1058
  let v1470 : BitVec 32 := Scalar.remsi v1467 v1469
  let c0_i32_1062 : BitVec 32 := 0#32
  let v1472 : BitVec 1 := Scalar.cmpi .slt v1470 c0_i32_1062
  let c0_i32_1063 : BitVec 32 := 0#32
  let v1473 : BitVec 1 := Scalar.cmpi .slt v1469 c0_i32_1063
  let v1474 : BitVec 1 := Scalar.xori v1472 v1473
  let c0_i32_1061 : BitVec 32 := 0#32
  let v1471 : BitVec 1 := Scalar.cmpi .ne v1470 c0_i32_1061
  let v1475 : BitVec 1 := Scalar.andi v1474 v1471
  let v1476 : BitVec 32 := Scalar.addi v1470 v1469
  let v1477 : BitVec 32 := Scalar.select v1475 v1476 v1470
  let c1_i32_1075 : BitVec 32 := 1#32
  let v1491 : BitVec 32 := Scalar.muli v1477 c1_i32_1075
  let v1492 : BitVec 32 := Scalar.addi c0_i32_1076 v1491
  v1492.toNat
def k0_dev47 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1107 : BitVec 32 := 16#32
  let v1535 : BitVec 32 := Scalar.addi v2 c16_i32_1107
  let c32_i32_1108 : BitVec 32 := 32#32
  let c0_i32_1109 : BitVec 32 := 0#32
  let v1536 : BitVec 1 := Scalar.cmpi .eq c32_i32_1108 c0_i32_1109
  let c1_i32_1110 : BitVec 32 := 1#32
  let v1537 : BitVec 32 := Scalar.select v1536 c1_i32_1110 c32_i32_1108
  let v1538 : BitVec 32 := Scalar.remsi v1535 v1537
  let c0_i32_1112 : BitVec 32 := 0#32
  let v1540 : BitVec 1 := Scalar.cmpi .slt v1538 c0_i32_1112
  let c0_i32_1113 : BitVec 32 := 0#32
  let v1541 : BitVec 1 := Scalar.cmpi .slt v1537 c0_i32_1113
  let v1542 : BitVec 1 := Scalar.xori v1540 v1541
  let c0_i32_1111 : BitVec 32 := 0#32
  let v1539 : BitVec 1 := Scalar.cmpi .ne v1538 c0_i32_1111
  let v1543 : BitVec 1 := Scalar.andi v1542 v1539
  let v1544 : BitVec 32 := Scalar.addi v1538 v1537
  let v1545 : BitVec 32 := Scalar.select v1543 v1544 v1538
  let c1_i32_1125 : BitVec 32 := 1#32
  let v1559 : BitVec 32 := Scalar.muli v1545 c1_i32_1125
  let v1560 : BitVec 32 := Scalar.addi c0_i32_1126 v1559
  v1560.toNat
def k0_dev48 (d0 : Dev nD) : Nat :=
  let c0_i32_1176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1157 : BitVec 32 := 17#32
  let v1603 : BitVec 32 := Scalar.addi v2 c17_i32_1157
  let c32_i32_1158 : BitVec 32 := 32#32
  let c0_i32_1159 : BitVec 32 := 0#32
  let v1604 : BitVec 1 := Scalar.cmpi .eq c32_i32_1158 c0_i32_1159
  let c1_i32_1160 : BitVec 32 := 1#32
  let v1605 : BitVec 32 := Scalar.select v1604 c1_i32_1160 c32_i32_1158
  let v1606 : BitVec 32 := Scalar.remsi v1603 v1605
  let c0_i32_1162 : BitVec 32 := 0#32
  let v1608 : BitVec 1 := Scalar.cmpi .slt v1606 c0_i32_1162
  let c0_i32_1163 : BitVec 32 := 0#32
  let v1609 : BitVec 1 := Scalar.cmpi .slt v1605 c0_i32_1163
  let v1610 : BitVec 1 := Scalar.xori v1608 v1609
  let c0_i32_1161 : BitVec 32 := 0#32
  let v1607 : BitVec 1 := Scalar.cmpi .ne v1606 c0_i32_1161
  let v1611 : BitVec 1 := Scalar.andi v1610 v1607
  let v1612 : BitVec 32 := Scalar.addi v1606 v1605
  let v1613 : BitVec 32 := Scalar.select v1611 v1612 v1606
  let c1_i32_1175 : BitVec 32 := 1#32
  let v1627 : BitVec 32 := Scalar.muli v1613 c1_i32_1175
  let v1628 : BitVec 32 := Scalar.addi c0_i32_1176 v1627
  v1628.toNat
def k0_dev49 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1207 : BitVec 32 := 18#32
  let v1671 : BitVec 32 := Scalar.addi v2 c18_i32_1207
  let c32_i32_1208 : BitVec 32 := 32#32
  let c0_i32_1209 : BitVec 32 := 0#32
  let v1672 : BitVec 1 := Scalar.cmpi .eq c32_i32_1208 c0_i32_1209
  let c1_i32_1210 : BitVec 32 := 1#32
  let v1673 : BitVec 32 := Scalar.select v1672 c1_i32_1210 c32_i32_1208
  let v1674 : BitVec 32 := Scalar.remsi v1671 v1673
  let c0_i32_1212 : BitVec 32 := 0#32
  let v1676 : BitVec 1 := Scalar.cmpi .slt v1674 c0_i32_1212
  let c0_i32_1213 : BitVec 32 := 0#32
  let v1677 : BitVec 1 := Scalar.cmpi .slt v1673 c0_i32_1213
  let v1678 : BitVec 1 := Scalar.xori v1676 v1677
  let c0_i32_1211 : BitVec 32 := 0#32
  let v1675 : BitVec 1 := Scalar.cmpi .ne v1674 c0_i32_1211
  let v1679 : BitVec 1 := Scalar.andi v1678 v1675
  let v1680 : BitVec 32 := Scalar.addi v1674 v1673
  let v1681 : BitVec 32 := Scalar.select v1679 v1680 v1674
  let c1_i32_1225 : BitVec 32 := 1#32
  let v1695 : BitVec 32 := Scalar.muli v1681 c1_i32_1225
  let v1696 : BitVec 32 := Scalar.addi c0_i32_1226 v1695
  v1696.toNat
def k0_dev50 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1257 : BitVec 32 := 19#32
  let v1739 : BitVec 32 := Scalar.addi v2 c19_i32_1257
  let c32_i32_1258 : BitVec 32 := 32#32
  let c0_i32_1259 : BitVec 32 := 0#32
  let v1740 : BitVec 1 := Scalar.cmpi .eq c32_i32_1258 c0_i32_1259
  let c1_i32_1260 : BitVec 32 := 1#32
  let v1741 : BitVec 32 := Scalar.select v1740 c1_i32_1260 c32_i32_1258
  let v1742 : BitVec 32 := Scalar.remsi v1739 v1741
  let c0_i32_1262 : BitVec 32 := 0#32
  let v1744 : BitVec 1 := Scalar.cmpi .slt v1742 c0_i32_1262
  let c0_i32_1263 : BitVec 32 := 0#32
  let v1745 : BitVec 1 := Scalar.cmpi .slt v1741 c0_i32_1263
  let v1746 : BitVec 1 := Scalar.xori v1744 v1745
  let c0_i32_1261 : BitVec 32 := 0#32
  let v1743 : BitVec 1 := Scalar.cmpi .ne v1742 c0_i32_1261
  let v1747 : BitVec 1 := Scalar.andi v1746 v1743
  let v1748 : BitVec 32 := Scalar.addi v1742 v1741
  let v1749 : BitVec 32 := Scalar.select v1747 v1748 v1742
  let c1_i32_1275 : BitVec 32 := 1#32
  let v1763 : BitVec 32 := Scalar.muli v1749 c1_i32_1275
  let v1764 : BitVec 32 := Scalar.addi c0_i32_1276 v1763
  v1764.toNat
def k0_dev51 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1307 : BitVec 32 := 20#32
  let v1807 : BitVec 32 := Scalar.addi v2 c20_i32_1307
  let c32_i32_1308 : BitVec 32 := 32#32
  let c0_i32_1309 : BitVec 32 := 0#32
  let v1808 : BitVec 1 := Scalar.cmpi .eq c32_i32_1308 c0_i32_1309
  let c1_i32_1310 : BitVec 32 := 1#32
  let v1809 : BitVec 32 := Scalar.select v1808 c1_i32_1310 c32_i32_1308
  let v1810 : BitVec 32 := Scalar.remsi v1807 v1809
  let c0_i32_1312 : BitVec 32 := 0#32
  let v1812 : BitVec 1 := Scalar.cmpi .slt v1810 c0_i32_1312
  let c0_i32_1313 : BitVec 32 := 0#32
  let v1813 : BitVec 1 := Scalar.cmpi .slt v1809 c0_i32_1313
  let v1814 : BitVec 1 := Scalar.xori v1812 v1813
  let c0_i32_1311 : BitVec 32 := 0#32
  let v1811 : BitVec 1 := Scalar.cmpi .ne v1810 c0_i32_1311
  let v1815 : BitVec 1 := Scalar.andi v1814 v1811
  let v1816 : BitVec 32 := Scalar.addi v1810 v1809
  let v1817 : BitVec 32 := Scalar.select v1815 v1816 v1810
  let c1_i32_1325 : BitVec 32 := 1#32
  let v1831 : BitVec 32 := Scalar.muli v1817 c1_i32_1325
  let v1832 : BitVec 32 := Scalar.addi c0_i32_1326 v1831
  v1832.toNat
def k0_dev52 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1357 : BitVec 32 := 21#32
  let v1875 : BitVec 32 := Scalar.addi v2 c21_i32_1357
  let c32_i32_1358 : BitVec 32 := 32#32
  let c0_i32_1359 : BitVec 32 := 0#32
  let v1876 : BitVec 1 := Scalar.cmpi .eq c32_i32_1358 c0_i32_1359
  let c1_i32_1360 : BitVec 32 := 1#32
  let v1877 : BitVec 32 := Scalar.select v1876 c1_i32_1360 c32_i32_1358
  let v1878 : BitVec 32 := Scalar.remsi v1875 v1877
  let c0_i32_1362 : BitVec 32 := 0#32
  let v1880 : BitVec 1 := Scalar.cmpi .slt v1878 c0_i32_1362
  let c0_i32_1363 : BitVec 32 := 0#32
  let v1881 : BitVec 1 := Scalar.cmpi .slt v1877 c0_i32_1363
  let v1882 : BitVec 1 := Scalar.xori v1880 v1881
  let c0_i32_1361 : BitVec 32 := 0#32
  let v1879 : BitVec 1 := Scalar.cmpi .ne v1878 c0_i32_1361
  let v1883 : BitVec 1 := Scalar.andi v1882 v1879
  let v1884 : BitVec 32 := Scalar.addi v1878 v1877
  let v1885 : BitVec 32 := Scalar.select v1883 v1884 v1878
  let c1_i32_1375 : BitVec 32 := 1#32
  let v1899 : BitVec 32 := Scalar.muli v1885 c1_i32_1375
  let v1900 : BitVec 32 := Scalar.addi c0_i32_1376 v1899
  v1900.toNat
def k0_dev53 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1407 : BitVec 32 := 22#32
  let v1943 : BitVec 32 := Scalar.addi v2 c22_i32_1407
  let c32_i32_1408 : BitVec 32 := 32#32
  let c0_i32_1409 : BitVec 32 := 0#32
  let v1944 : BitVec 1 := Scalar.cmpi .eq c32_i32_1408 c0_i32_1409
  let c1_i32_1410 : BitVec 32 := 1#32
  let v1945 : BitVec 32 := Scalar.select v1944 c1_i32_1410 c32_i32_1408
  let v1946 : BitVec 32 := Scalar.remsi v1943 v1945
  let c0_i32_1412 : BitVec 32 := 0#32
  let v1948 : BitVec 1 := Scalar.cmpi .slt v1946 c0_i32_1412
  let c0_i32_1413 : BitVec 32 := 0#32
  let v1949 : BitVec 1 := Scalar.cmpi .slt v1945 c0_i32_1413
  let v1950 : BitVec 1 := Scalar.xori v1948 v1949
  let c0_i32_1411 : BitVec 32 := 0#32
  let v1947 : BitVec 1 := Scalar.cmpi .ne v1946 c0_i32_1411
  let v1951 : BitVec 1 := Scalar.andi v1950 v1947
  let v1952 : BitVec 32 := Scalar.addi v1946 v1945
  let v1953 : BitVec 32 := Scalar.select v1951 v1952 v1946
  let c1_i32_1425 : BitVec 32 := 1#32
  let v1967 : BitVec 32 := Scalar.muli v1953 c1_i32_1425
  let v1968 : BitVec 32 := Scalar.addi c0_i32_1426 v1967
  v1968.toNat
def k0_dev54 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1457 : BitVec 32 := 23#32
  let v2011 : BitVec 32 := Scalar.addi v2 c23_i32_1457
  let c32_i32_1458 : BitVec 32 := 32#32
  let c0_i32_1459 : BitVec 32 := 0#32
  let v2012 : BitVec 1 := Scalar.cmpi .eq c32_i32_1458 c0_i32_1459
  let c1_i32_1460 : BitVec 32 := 1#32
  let v2013 : BitVec 32 := Scalar.select v2012 c1_i32_1460 c32_i32_1458
  let v2014 : BitVec 32 := Scalar.remsi v2011 v2013
  let c0_i32_1462 : BitVec 32 := 0#32
  let v2016 : BitVec 1 := Scalar.cmpi .slt v2014 c0_i32_1462
  let c0_i32_1463 : BitVec 32 := 0#32
  let v2017 : BitVec 1 := Scalar.cmpi .slt v2013 c0_i32_1463
  let v2018 : BitVec 1 := Scalar.xori v2016 v2017
  let c0_i32_1461 : BitVec 32 := 0#32
  let v2015 : BitVec 1 := Scalar.cmpi .ne v2014 c0_i32_1461
  let v2019 : BitVec 1 := Scalar.andi v2018 v2015
  let v2020 : BitVec 32 := Scalar.addi v2014 v2013
  let v2021 : BitVec 32 := Scalar.select v2019 v2020 v2014
  let c1_i32_1475 : BitVec 32 := 1#32
  let v2035 : BitVec 32 := Scalar.muli v2021 c1_i32_1475
  let v2036 : BitVec 32 := Scalar.addi c0_i32_1476 v2035
  v2036.toNat
def k0_dev55 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1507 : BitVec 32 := 24#32
  let v2079 : BitVec 32 := Scalar.addi v2 c24_i32_1507
  let c32_i32_1508 : BitVec 32 := 32#32
  let c0_i32_1509 : BitVec 32 := 0#32
  let v2080 : BitVec 1 := Scalar.cmpi .eq c32_i32_1508 c0_i32_1509
  let c1_i32_1510 : BitVec 32 := 1#32
  let v2081 : BitVec 32 := Scalar.select v2080 c1_i32_1510 c32_i32_1508
  let v2082 : BitVec 32 := Scalar.remsi v2079 v2081
  let c0_i32_1512 : BitVec 32 := 0#32
  let v2084 : BitVec 1 := Scalar.cmpi .slt v2082 c0_i32_1512
  let c0_i32_1513 : BitVec 32 := 0#32
  let v2085 : BitVec 1 := Scalar.cmpi .slt v2081 c0_i32_1513
  let v2086 : BitVec 1 := Scalar.xori v2084 v2085
  let c0_i32_1511 : BitVec 32 := 0#32
  let v2083 : BitVec 1 := Scalar.cmpi .ne v2082 c0_i32_1511
  let v2087 : BitVec 1 := Scalar.andi v2086 v2083
  let v2088 : BitVec 32 := Scalar.addi v2082 v2081
  let v2089 : BitVec 32 := Scalar.select v2087 v2088 v2082
  let c1_i32_1525 : BitVec 32 := 1#32
  let v2103 : BitVec 32 := Scalar.muli v2089 c1_i32_1525
  let v2104 : BitVec 32 := Scalar.addi c0_i32_1526 v2103
  v2104.toNat
def k0_dev56 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1557 : BitVec 32 := 25#32
  let v2147 : BitVec 32 := Scalar.addi v2 c25_i32_1557
  let c32_i32_1558 : BitVec 32 := 32#32
  let c0_i32_1559 : BitVec 32 := 0#32
  let v2148 : BitVec 1 := Scalar.cmpi .eq c32_i32_1558 c0_i32_1559
  let c1_i32_1560 : BitVec 32 := 1#32
  let v2149 : BitVec 32 := Scalar.select v2148 c1_i32_1560 c32_i32_1558
  let v2150 : BitVec 32 := Scalar.remsi v2147 v2149
  let c0_i32_1562 : BitVec 32 := 0#32
  let v2152 : BitVec 1 := Scalar.cmpi .slt v2150 c0_i32_1562
  let c0_i32_1563 : BitVec 32 := 0#32
  let v2153 : BitVec 1 := Scalar.cmpi .slt v2149 c0_i32_1563
  let v2154 : BitVec 1 := Scalar.xori v2152 v2153
  let c0_i32_1561 : BitVec 32 := 0#32
  let v2151 : BitVec 1 := Scalar.cmpi .ne v2150 c0_i32_1561
  let v2155 : BitVec 1 := Scalar.andi v2154 v2151
  let v2156 : BitVec 32 := Scalar.addi v2150 v2149
  let v2157 : BitVec 32 := Scalar.select v2155 v2156 v2150
  let c1_i32_1575 : BitVec 32 := 1#32
  let v2171 : BitVec 32 := Scalar.muli v2157 c1_i32_1575
  let v2172 : BitVec 32 := Scalar.addi c0_i32_1576 v2171
  v2172.toNat
def k0_dev57 (d0 : Dev nD) : Nat :=
  let c0_i32_1626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1607 : BitVec 32 := 26#32
  let v2215 : BitVec 32 := Scalar.addi v2 c26_i32_1607
  let c32_i32_1608 : BitVec 32 := 32#32
  let c0_i32_1609 : BitVec 32 := 0#32
  let v2216 : BitVec 1 := Scalar.cmpi .eq c32_i32_1608 c0_i32_1609
  let c1_i32_1610 : BitVec 32 := 1#32
  let v2217 : BitVec 32 := Scalar.select v2216 c1_i32_1610 c32_i32_1608
  let v2218 : BitVec 32 := Scalar.remsi v2215 v2217
  let c0_i32_1612 : BitVec 32 := 0#32
  let v2220 : BitVec 1 := Scalar.cmpi .slt v2218 c0_i32_1612
  let c0_i32_1613 : BitVec 32 := 0#32
  let v2221 : BitVec 1 := Scalar.cmpi .slt v2217 c0_i32_1613
  let v2222 : BitVec 1 := Scalar.xori v2220 v2221
  let c0_i32_1611 : BitVec 32 := 0#32
  let v2219 : BitVec 1 := Scalar.cmpi .ne v2218 c0_i32_1611
  let v2223 : BitVec 1 := Scalar.andi v2222 v2219
  let v2224 : BitVec 32 := Scalar.addi v2218 v2217
  let v2225 : BitVec 32 := Scalar.select v2223 v2224 v2218
  let c1_i32_1625 : BitVec 32 := 1#32
  let v2239 : BitVec 32 := Scalar.muli v2225 c1_i32_1625
  let v2240 : BitVec 32 := Scalar.addi c0_i32_1626 v2239
  v2240.toNat
def k0_dev58 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1657 : BitVec 32 := 27#32
  let v2283 : BitVec 32 := Scalar.addi v2 c27_i32_1657
  let c32_i32_1658 : BitVec 32 := 32#32
  let c0_i32_1659 : BitVec 32 := 0#32
  let v2284 : BitVec 1 := Scalar.cmpi .eq c32_i32_1658 c0_i32_1659
  let c1_i32_1660 : BitVec 32 := 1#32
  let v2285 : BitVec 32 := Scalar.select v2284 c1_i32_1660 c32_i32_1658
  let v2286 : BitVec 32 := Scalar.remsi v2283 v2285
  let c0_i32_1662 : BitVec 32 := 0#32
  let v2288 : BitVec 1 := Scalar.cmpi .slt v2286 c0_i32_1662
  let c0_i32_1663 : BitVec 32 := 0#32
  let v2289 : BitVec 1 := Scalar.cmpi .slt v2285 c0_i32_1663
  let v2290 : BitVec 1 := Scalar.xori v2288 v2289
  let c0_i32_1661 : BitVec 32 := 0#32
  let v2287 : BitVec 1 := Scalar.cmpi .ne v2286 c0_i32_1661
  let v2291 : BitVec 1 := Scalar.andi v2290 v2287
  let v2292 : BitVec 32 := Scalar.addi v2286 v2285
  let v2293 : BitVec 32 := Scalar.select v2291 v2292 v2286
  let c1_i32_1675 : BitVec 32 := 1#32
  let v2307 : BitVec 32 := Scalar.muli v2293 c1_i32_1675
  let v2308 : BitVec 32 := Scalar.addi c0_i32_1676 v2307
  v2308.toNat
def k0_dev59 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1707 : BitVec 32 := 28#32
  let v2351 : BitVec 32 := Scalar.addi v2 c28_i32_1707
  let c32_i32_1708 : BitVec 32 := 32#32
  let c0_i32_1709 : BitVec 32 := 0#32
  let v2352 : BitVec 1 := Scalar.cmpi .eq c32_i32_1708 c0_i32_1709
  let c1_i32_1710 : BitVec 32 := 1#32
  let v2353 : BitVec 32 := Scalar.select v2352 c1_i32_1710 c32_i32_1708
  let v2354 : BitVec 32 := Scalar.remsi v2351 v2353
  let c0_i32_1712 : BitVec 32 := 0#32
  let v2356 : BitVec 1 := Scalar.cmpi .slt v2354 c0_i32_1712
  let c0_i32_1713 : BitVec 32 := 0#32
  let v2357 : BitVec 1 := Scalar.cmpi .slt v2353 c0_i32_1713
  let v2358 : BitVec 1 := Scalar.xori v2356 v2357
  let c0_i32_1711 : BitVec 32 := 0#32
  let v2355 : BitVec 1 := Scalar.cmpi .ne v2354 c0_i32_1711
  let v2359 : BitVec 1 := Scalar.andi v2358 v2355
  let v2360 : BitVec 32 := Scalar.addi v2354 v2353
  let v2361 : BitVec 32 := Scalar.select v2359 v2360 v2354
  let c1_i32_1725 : BitVec 32 := 1#32
  let v2375 : BitVec 32 := Scalar.muli v2361 c1_i32_1725
  let v2376 : BitVec 32 := Scalar.addi c0_i32_1726 v2375
  v2376.toNat
def k0_dev60 (d0 : Dev nD) : Nat :=
  let c0_i32_1776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1757 : BitVec 32 := 29#32
  let v2419 : BitVec 32 := Scalar.addi v2 c29_i32_1757
  let c32_i32_1758 : BitVec 32 := 32#32
  let c0_i32_1759 : BitVec 32 := 0#32
  let v2420 : BitVec 1 := Scalar.cmpi .eq c32_i32_1758 c0_i32_1759
  let c1_i32_1760 : BitVec 32 := 1#32
  let v2421 : BitVec 32 := Scalar.select v2420 c1_i32_1760 c32_i32_1758
  let v2422 : BitVec 32 := Scalar.remsi v2419 v2421
  let c0_i32_1762 : BitVec 32 := 0#32
  let v2424 : BitVec 1 := Scalar.cmpi .slt v2422 c0_i32_1762
  let c0_i32_1763 : BitVec 32 := 0#32
  let v2425 : BitVec 1 := Scalar.cmpi .slt v2421 c0_i32_1763
  let v2426 : BitVec 1 := Scalar.xori v2424 v2425
  let c0_i32_1761 : BitVec 32 := 0#32
  let v2423 : BitVec 1 := Scalar.cmpi .ne v2422 c0_i32_1761
  let v2427 : BitVec 1 := Scalar.andi v2426 v2423
  let v2428 : BitVec 32 := Scalar.addi v2422 v2421
  let v2429 : BitVec 32 := Scalar.select v2427 v2428 v2422
  let c1_i32_1775 : BitVec 32 := 1#32
  let v2443 : BitVec 32 := Scalar.muli v2429 c1_i32_1775
  let v2444 : BitVec 32 := Scalar.addi c0_i32_1776 v2443
  v2444.toNat
def k0_dev61 (d0 : Dev nD) : Nat :=
  let c0_i32_1826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1807 : BitVec 32 := 30#32
  let v2487 : BitVec 32 := Scalar.addi v2 c30_i32_1807
  let c32_i32_1808 : BitVec 32 := 32#32
  let c0_i32_1809 : BitVec 32 := 0#32
  let v2488 : BitVec 1 := Scalar.cmpi .eq c32_i32_1808 c0_i32_1809
  let c1_i32_1810 : BitVec 32 := 1#32
  let v2489 : BitVec 32 := Scalar.select v2488 c1_i32_1810 c32_i32_1808
  let v2490 : BitVec 32 := Scalar.remsi v2487 v2489
  let c0_i32_1812 : BitVec 32 := 0#32
  let v2492 : BitVec 1 := Scalar.cmpi .slt v2490 c0_i32_1812
  let c0_i32_1813 : BitVec 32 := 0#32
  let v2493 : BitVec 1 := Scalar.cmpi .slt v2489 c0_i32_1813
  let v2494 : BitVec 1 := Scalar.xori v2492 v2493
  let c0_i32_1811 : BitVec 32 := 0#32
  let v2491 : BitVec 1 := Scalar.cmpi .ne v2490 c0_i32_1811
  let v2495 : BitVec 1 := Scalar.andi v2494 v2491
  let v2496 : BitVec 32 := Scalar.addi v2490 v2489
  let v2497 : BitVec 32 := Scalar.select v2495 v2496 v2490
  let c1_i32_1825 : BitVec 32 := 1#32
  let v2511 : BitVec 32 := Scalar.muli v2497 c1_i32_1825
  let v2512 : BitVec 32 := Scalar.addi c0_i32_1826 v2511
  v2512.toNat
def k0_dev62 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1844 : BitVec 32 := 31#32
  let v2538 : BitVec 32 := Scalar.addi v2 c31_i32_1844
  let c32_i32_1845 : BitVec 32 := 32#32
  let c0_i32_1846 : BitVec 32 := 0#32
  let v2539 : BitVec 1 := Scalar.cmpi .eq c32_i32_1845 c0_i32_1846
  let c1_i32_1847 : BitVec 32 := 1#32
  let v2540 : BitVec 32 := Scalar.select v2539 c1_i32_1847 c32_i32_1845
  let v2541 : BitVec 32 := Scalar.remsi v2538 v2540
  let c0_i32_1849 : BitVec 32 := 0#32
  let v2543 : BitVec 1 := Scalar.cmpi .slt v2541 c0_i32_1849
  let c0_i32_1850 : BitVec 32 := 0#32
  let v2544 : BitVec 1 := Scalar.cmpi .slt v2540 c0_i32_1850
  let v2545 : BitVec 1 := Scalar.xori v2543 v2544
  let c0_i32_1848 : BitVec 32 := 0#32
  let v2542 : BitVec 1 := Scalar.cmpi .ne v2541 c0_i32_1848
  let v2546 : BitVec 1 := Scalar.andi v2545 v2542
  let v2547 : BitVec 32 := Scalar.addi v2541 v2540
  let v2548 : BitVec 32 := Scalar.select v2546 v2547 v2541
  let c1_i32_1862 : BitVec 32 := 1#32
  let v2562 : BitVec 32 := Scalar.muli v2548 c1_i32_1862
  let v2563 : BitVec 32 := Scalar.addi c0_i32_1863 v2562
  v2563.toNat
def k0_off5 (d0 : Dev nD) (c1_i32_1868 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2572 : BitVec 32 := Scalar.addi v2 c1_i32_1868
  let c32_i32_1869 : BitVec 32 := 32#32
  let c0_i32_1870 : BitVec 32 := 0#32
  let v2573 : BitVec 1 := Scalar.cmpi .eq c32_i32_1869 c0_i32_1870
  let c1_i32_1871 : BitVec 32 := 1#32
  let v2574 : BitVec 32 := Scalar.select v2573 c1_i32_1871 c32_i32_1869
  let v2575 : BitVec 32 := Scalar.remsi v2572 v2574
  let c0_i32_1873 : BitVec 32 := 0#32
  let v2577 : BitVec 1 := Scalar.cmpi .slt v2575 c0_i32_1873
  let c0_i32_1874 : BitVec 32 := 0#32
  let v2578 : BitVec 1 := Scalar.cmpi .slt v2574 c0_i32_1874
  let v2579 : BitVec 1 := Scalar.xori v2577 v2578
  let c0_i32_1872 : BitVec 32 := 0#32
  let v2576 : BitVec 1 := Scalar.cmpi .ne v2575 c0_i32_1872
  let v2580 : BitVec 1 := Scalar.andi v2579 v2576
  let v2581 : BitVec 32 := Scalar.addi v2575 v2574
  let v2582 : BitVec 32 := Scalar.select v2580 v2581 v2575
  ![v2582.toNat]
def k0_off6 (d0 : Dev nD) (c1_i32_1868 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2572 : BitVec 32 := Scalar.addi v2 c1_i32_1868
  let c32_i32_1869 : BitVec 32 := 32#32
  let c0_i32_1870 : BitVec 32 := 0#32
  let v2573 : BitVec 1 := Scalar.cmpi .eq c32_i32_1869 c0_i32_1870
  let c1_i32_1871 : BitVec 32 := 1#32
  let v2574 : BitVec 32 := Scalar.select v2573 c1_i32_1871 c32_i32_1869
  let v2575 : BitVec 32 := Scalar.remsi v2572 v2574
  let c0_i32_1873 : BitVec 32 := 0#32
  let v2577 : BitVec 1 := Scalar.cmpi .slt v2575 c0_i32_1873
  let c0_i32_1874 : BitVec 32 := 0#32
  let v2578 : BitVec 1 := Scalar.cmpi .slt v2574 c0_i32_1874
  let v2579 : BitVec 1 := Scalar.xori v2577 v2578
  let c0_i32_1872 : BitVec 32 := 0#32
  let v2576 : BitVec 1 := Scalar.cmpi .ne v2575 c0_i32_1872
  let v2580 : BitVec 1 := Scalar.andi v2579 v2576
  let v2581 : BitVec 32 := Scalar.addi v2575 v2574
  let v2582 : BitVec 32 := Scalar.select v2580 v2581 v2575
  let c0_i32_1879 : BitVec 32 := 0#32
  let c0_i32_1880 : BitVec 32 := 0#32
  ![v2582.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Prog.lean ====
/- The kernel's body as a structured program. The printed body is one long straight line; here it is the
   same sequence of memory operations written with its loops (31 signals, 32 steps, 31 waits twice), and
   `cc0_body_eq` says the two are one program. -/
module

public import proofs.«01_k».proof.Proof.Gen.KernelIdeal.Skeleton
public import Idealize.ShloMosaic.Lib.Pipeline.Regions

@[expose] public section

set_option synthInstance.maxSize 4096

noncomputable section

namespace Cert.KernelIdeal.Hand

open Idealize.ShloMosaic Idealize.SL.Sem
open Cert.KernelIdeal Cert.KernelIdeal.Gen

variable {F : FTy → Type} [FloatOps F]

/-- The programs of a device's TensorCore. -/
abbrev TcProg (F : FTy → Type) [FloatOps F] (α : Type) := Prog (TpuEff nD τ sig (Elt F) Λ₀ .tc) α

/-- `f 0`, then `f 1`, …, then `f (n-1)`. -/
def seqN : (n : ℕ) → (Fin n → TcProg F PUnit) → TcProg F PUnit
  | 0, _ => pure ⟨⟩
  | n + 1, f => f 0 >>= fun _ => seqN n fun i => f i.succ

/-! ## Where the body reads and writes -/

/-- The device `k` places after `d0` around the ring of devices, as the body computes it. -/
def devAt (d0 : Dev nD) (k : BitVec 32) : ℕ :=
  let v2 : BitVec 32 := Scalar.remsi (Scalar.divsi (Dev.word d0) 1#32) 32#32
  let v7 : BitVec 32 := Scalar.addi v2 k
  let v9 : BitVec 32 := Scalar.select (Scalar.cmpi .eq 32#32 0#32) 1#32 32#32
  let v10 : BitVec 32 := Scalar.remsi v7 v9
  let v15 : BitVec 1 := Scalar.andi (Scalar.xori (Scalar.cmpi .slt v10 0#32) (Scalar.cmpi .slt v9 0#32)) (Scalar.cmpi .ne v10 0#32)
  let v17 : BitVec 32 := Scalar.select v15 (Scalar.addi v10 v9) v10
  (Scalar.addi 0#32 (Scalar.muli v17 1#32)).toNat

theorem devAt_eq : ∀ (d0 : Dev nD) (k : Fin 32), devAt d0 (BitVec.ofNat 32 k.val) = (d0.val + k.val) % 32 := by
  decide +kernel

theorem devAt_lt (d0 : Dev nD) (k : Fin 32) : devAt d0 (BitVec.ofNat 32 k.val) < nD := by
  rw [devAt_eq]; exact Nat.mod_lt _ (by decide)

theorem inb2 : ∀ (s : Fin 2) (a : Fin 1), (![s.val] : Fin 1 → ℕ) a + S1.size a ≤ S2.size a := by decide
theorem inb32 : ∀ (d : Fin 32) (a : Fin 1), (![d.val] : Fin 1 → ℕ) a + S1.size a ≤ S32.size a := by decide
theorem inbW : ∀ (s : Fin 2) (a : Fin 3), (![s.val, 0, 0] : Fin 3 → ℕ) a + S1x4096x256.size a ≤ S2x4096x256.size a := by
  decide
theorem inbC : ∀ (d : Fin 32) (a : Fin 3), (![d.val, 0, 0] : Fin 3 → ℕ) a + S1x128x256.size a ≤ S32x128x256.size a := by
  decide
theorem wordsC : ∀ d : Fin 32, (Rect.unit (s := S32x128x256) ![d.val, 0, 0] S1x128x256.size (inbC d)).WholeWords (EltTy.packing .bf16) := by
  decide
theorem packedC : ∀ d : Fin 32, (Rect.unit (s := S32x128x256) ![d.val, 0, 0] S1x128x256.size (inbC d)).PackedRows (EltTy.packing .bf16) := by
  decide

/-- The barrier semaphore. -/
abbrev barSem : Sems sig S_ := SemArray.scalar (sig.barrier 0 rfl)
/-- The semaphore of slot `s` of the double buffer of `w`. -/
abbrev wSem (s : Fin 2) : DmaSems sig S_ :=
  (cc0_scratch4.slice (Rect.unit (s := S2) ![s.val] S1.size (inb2 s))).squeeze S_ squeezes_S1_S_
/-- The semaphore of the send of step `d`. -/
abbrev sendSem (d : Fin 32) : DmaSems sig S_ :=
  (cc0_scratch5.slice (Rect.unit (s := S32) ![d.val] S1.size (inb32 d))).squeeze S_ squeezes_S1_S_
/-- The receive semaphore for what device `s` sends. -/
abbrev recvSem (s : Fin 32) : DmaSems sig S_ :=
  (cc0_scratch6.slice (Rect.unit (s := S32) ![s.val] S1.size (inb32 s))).squeeze S_ squeezes_S1_S_
/-- Columns of `w`. -/
abbrev wSlice (off : Fin 2 → ℕ) (h : ∀ a, off a + S4096x256.size a ≤ S4096x8192.size a) : Memref sig .tc .hbm S4096x256 .f32 :=
  (Memref.whole main_arg1).slice (Rect.unit (s := S4096x8192) off S4096x256.size h) (fun _ => rfl)
/-- Slot `s` of the double buffer. -/
abbrev wSlot (s : Fin 2) : Memref sig .tc .vmem S4096x256 .f32 :=
  ((Memref.whole cc0_scratch1).slice (Rect.unit (s := S2x4096x256) ![s.val, 0, 0] S1x4096x256.size (inbW s)) (fun _ => rfl)).squeeze S4096x256 squeezes_S1x4096x256_S4096x256
/-- The chunk step `d` computes and sends. -/
abbrev chunk (d : Fin 32) : Memref sig .tc .vmem S128x256 .bf16 :=
  ((Memref.whole cc0_scratch2).slice (Rect.unit (s := S32x128x256) ![d.val, 0, 0] S1x128x256.size (inbC d)) (fun _ => rfl)).squeeze S128x256 squeezes_S1x128x256_S128x256
/-- A slot of the receive buffer. -/
abbrev rSlice (off : Fin 3 → ℕ) (h : ∀ a, off a + S1x128x256.size a ≤ S32x128x256.size a) : Memref sig .tc .vmem S128x256 .bf16 :=
  ((Memref.whole cc0_scratch3).slice (Rect.unit (s := S32x128x256) off S1x128x256.size h) (fun _ => rfl)).squeeze S128x256 squeezes_S1x128x256_S128x256

/-- Where one device's body reads and writes: its peers by distance, the column blocks of `w` by distance, the
    receive semaphore its sends name, the receive semaphores it waits on, the slot its sends fill, the slots its
    peers fill, and its own slot. -/
structure Places where
  dv : Fin 32 → Dev nD
  w : Fin 32 → Memref sig .tc .hbm S4096x256 .f32
  hw : ∀ k, (w k).view.WordExact
  recvSelf : DmaSem sig
  recvFrom : Fin 31 → DmaSem sig
  rSelf : Memref sig .tc .vmem S128x256 .bf16
  hSelf : rSelf.view.WordExact
  rFrom : Fin 31 → Memref sig .tc .vmem S128x256 .bf16
  hFrom : ∀ i, (rFrom i).view.WordExact
  off : Fin 3 → ℕ
  hoff : ∀ a, off a + S1x128x256.size a ≤ S32x128x256.size a
  hpacked : (Rect.unit (s := S32x128x256) off S1x128x256.size hoff).PackedRows (EltTy.packing .bf16)

/-! ## The operations -/

abbrev hw2 : (Memref.whole (κ := Kind.tc) cc0_scratch2 : Memref sig .tc .vmem S32x128x256 .bf16).IsWhole := Memref.isWhole_whole _
abbrev hw3 : (Memref.whole (κ := Kind.tc) cc0_scratch3 : Memref sig .tc .vmem S32x128x256 .bf16).IsWhole := Memref.isWhole_whole _
abbrev hw0 : (Memref.whole (κ := Kind.tc) cc0_scratch0 : Memref sig .tc .vmem S128x4096 .fp8e4m3).IsWhole := Memref.isWhole_whole _

theorem chunk_words (d : Fin 32) : (chunk d).view.WordExact :=
  (hw2.wordExact_slice rfl _ (wordsC d)).reshape _ _
theorem wSlot_words (s : Fin 2) : (wSlot s).view.WordExact := (View.wordExact_bits rfl).reshape _ _

/-- The places the printed body computes on device `d0`. -/
abbrev printed (d0 : Dev nD) : Places where
  dv k := ⟨devAt d0 (BitVec.ofNat 32 k.val), devAt_lt d0 k⟩
  w k := wSlice (k0_off1 d0 (BitVec.ofNat 32 k.val)) (k0_off1_inb d0 k)
  hw _ := View.wordExact_bits rfl
  recvSelf := ((cc0_scratch6.slice (Rect.unit (s := S32) (k0_off3 d0) S1.size (k0_off3_inb d0))).squeeze S_ squeezes_S1_S_).sem
  recvFrom i := ((cc0_scratch6.slice (Rect.unit (s := S32) (k0_off5 d0 (BitVec.ofNat 32 (1 + i.val))) S1.size (k0_off5_inb d0 i))).squeeze S_ squeezes_S1_S_).sem
  rSelf := rSlice (k0_off4 d0) (k0_off4_inb d0)
  hSelf := (hw3.wordExact_slice rfl _ (k0_off4_wordsbf16 d0)).reshape _ _
  rFrom i := rSlice (k0_off6 d0 (BitVec.ofNat 32 (1 + i.val))) (k0_off6_inb d0 i)
  hFrom i := (hw3.wordExact_slice rfl _ (k0_off6_wordsbf16 d0 i)).reshape _ _
  off := k0_off2 d0
  hoff := k0_off2_inb d0
  hpacked := k0_off2_packedbf16 d0

/-- Start the transfer of block `k` of `w` into slot `s`. -/
def wStart (P : Places) (k : Fin 32) (s : Fin 2) : TcProg F PUnit :=
  Prog.lift (.enqueueDma (P.w k) (.here (wSlot s)) (.dma (wSem s).sem) (P.hw k) (wSlot_words s) ⟨Or.inl rfl, trivial⟩)
/-- Wait for it. -/
def wWait (P : Places) (k : Fin 32) (s : Fin 2) : TcProg F PUnit :=
  Prog.lift (.waitDma2 (wSem s).sem (P.w k) (wSlot s) (P.hw k) (wSlot_words s))
/-- Send chunk `d` to the device `d` places on. -/
def sendChunk (P : Places) (d : Fin 32) : TcProg F PUnit :=
  Prog.lift (.enqueueDma (chunk d) (.remote (Dev.tc (P.dv d)) P.rSelf (.dma (sendSem d).sem)) (.dma P.recvSelf)
    (chunk_words d) P.hSelf ⟨⟨rfl, Or.inl rfl⟩, trivial⟩)
/-- Wait for what the device `1 + i` places on sends. -/
def waitRecv (P : Places) (i : Fin 31) : TcProg F PUnit :=
  Prog.lift (.waitDma2 (P.recvFrom i) (chunk i.succ) (P.rFrom i) (chunk_words i.succ) (P.hFrom i))
/-- Wait for the send of step `1 + i`. -/
def waitSend (P : Places) (i : Fin 31) : TcProg F PUnit :=
  Prog.lift (.waitDma2 (sendSem i.succ).sem P.rSelf (chunk i.succ) P.hSelf (chunk_words i.succ))
/-- Tell the device `1 + i` places on that this one has entered. -/
def signalTo (P : Places) (i : Fin 31) : TcProg F PUnit :=
  semSignalWord (P.dv i.succ : Dev nD) barSem.sem 1#32
/-- Read slot `s` of the double buffer. -/
def loadW (s : Fin 2) : TcProg F (Vec F S1x4096x256 .f32) :=
  Prog.lift (.load (Memref.whole cc0_scratch1) (Rect.unit (s := S2x4096x256) ![s.val, 0, 0] S1x4096x256.size (inbW s)).toLoadRect (View.loadsAt_vmem h_S1x4096x256))
/-- Read the device's rows of `x`, cast. -/
def loadX : TcProg F (Vec F S128x4096 .fp8e4m3) :=
  Prog.lift (.load (Memref.whole cc0_scratch0) (Rect.unit (s := S128x4096) ![0, 0] S128x4096.size inb_S128x4096_S128x4096_0_0).toLoadRect (View.loadsAt_vmem h_S128x4096))
/-- Compute chunk `d` from slot `s` and store it. -/
def compute (v5 : F .f32) (d : Fin 32) (s : Fin 2) : TcProg F PUnit := do
  let v ← loadW s
  let x ← loadX
  let _ : Vec F S1x128x256 .bf16 ← Prog.lift (.load (Memref.whole cc0_scratch2) (Rect.unit (s := S32x128x256) ![d.val, 0, 0] S1x128x256.size (inbC d)).toLoadRect (View.loadsAt_vmem h_S1x128x256))
  Prog.lift (.store (Memref.whole cc0_scratch2) (Rect.unit (s := S32x128x256) ![d.val, 0, 0] S1x128x256.size (inbC d)) (k0_pay3 v5 v x) Finset.univ (View.stores_vmem h_S1x128x256 (hw2.storeExact_slice rfl _ (packedC d)) (fun _ => rfl)) (.inl rfl))

/-- The slot of step `d`. -/
abbrev slotOf (d : ℕ) : Fin 2 := ⟨d % 2, Nat.mod_lt _ (by decide)⟩

/-- Step `1 + i`, for `i < 30`: start the next block, wait for this one, compute the chunk and send it. -/
def step (P : Places) (v5 : F .f32) (i : Fin 30) : TcProg F PUnit := do
  wStart P ⟨i.val + 2, by omega⟩ (slotOf (i.val + 2))
  wWait P ⟨i.val + 1, by omega⟩ (slotOf (i.val + 1))
  compute v5 ⟨i.val + 1, by omega⟩ (slotOf (i.val + 1))
  sendChunk P ⟨i.val + 1, by omega⟩

/-- The last step: nothing is left to start. -/
def lastStep (P : Places) (v5 : F .f32) : TcProg F PUnit := do
  wWait P 31 1
  compute v5 31 1
  sendChunk P 31

/-- The first step: the device's own chunk, put straight into its receive buffer. -/
def ownStep (P : Places) (v5 : F .f32) : TcProg F PUnit := do
  wStart P 0 0
  wStart P 1 1
  wWait P 0 0
  let v ← loadW 0
  let x ← loadX
  let _ : Vec F S1x128x256 .bf16 ← Prog.lift (.load (Memref.whole cc0_scratch3) (Rect.unit (s := S32x128x256) P.off S1x128x256.size P.hoff).toLoadRect (View.loadsAt_vmem h_S1x128x256))
  Prog.lift (.store (Memref.whole cc0_scratch3) (Rect.unit (s := S32x128x256) P.off S1x128x256.size P.hoff) (k0_pay3 v5 v x) Finset.univ (View.stores_vmem h_S1x128x256 (hw3.storeExact_slice rfl _ P.hpacked) (fun _ => rfl)) (.inl rfl))

/-- Cast the device's rows of `x`. -/
def castX : TcProg F PUnit := do
  let v : Vec F S128x4096 .f32 ← Prog.lift (.load (win0_0.stage 0) (Rect.unit (s := S128x4096) ![0, 0] S128x4096.size inb_S128x4096_S128x4096_0_0).toLoadRect (View.loadsAt_vmem h_S128x4096))
  let _ ← loadX
  Prog.lift (.store (Memref.whole cc0_scratch0) (Rect.unit (s := S128x4096) ![0, 0] S128x4096.size inb_S128x4096_S128x4096_0_0) (k0_pay2 v) Finset.univ (View.stores_vmem h_S128x4096 (hw0.storeExact_slice rfl _ packedfp8e4m3_S128x4096_S128x4096_0_0) (fun _ => rfl)) (.inl rfl))

/-- The product of the two scales. -/
def scales : TcProg F (F .f32) := do
  let v3 : Elt F .f32 ← smemLoad (win0_1.stage 0) (Rect.unit (s := S1) ![0] S1.size inb_S1_S1_0) numel1_S1 rfl
  let v4 : Elt F .f32 ← smemLoad (win0_2.stage 0) (Rect.unit (s := S1) ![0] S1.size inb_S1_S1_0) numel1_S1 rfl
  pure (k0_pay1 v3 v4)

/-- Copy the receive buffer out. -/
def copyOut : TcProg F PUnit := do
  let v : Vec F S32x128x256 .bf16 ← Prog.lift (.load (Memref.whole cc0_scratch3) (Rect.unit (s := S32x128x256) ![0, 0, 0] S32x128x256.size inb_S32x128x256_S32x128x256_0_0_0).toLoadRect (View.loadsAt_vmem h_S32x128x256))
  let _ : Vec F S4096x256 .f32 ← Prog.lift (.load (win0_3.stage 0) (Rect.unit (s := S4096x256) ![0, 0] S4096x256.size inb_S4096x256_S4096x256_0_0).toLoadRect (View.loadsAt_vmem h_S4096x256))
  Prog.lift (.store (win0_3.stage 0) (Rect.unit (s := S4096x256) ![0, 0] S4096x256.size inb_S4096x256_S4096x256_0_0) (k0_pay41 v) Finset.univ (View.stores_vmem_bits_univ h_S4096x256 rfl) (.inl rfl))

/-- The body at the places `P`. -/
def bodyAt (P : Places) : TcProg F PUnit := do
  let v5 ← scales
  seqN 31 (signalTo P)
  semWaitWord barSem.sem 31#32
  castX
  ownStep P v5
  seqN 30 (step P v5)
  lastStep P v5
  seqN 31 (waitRecv P)
  copyOut
  seqN 31 (waitSend P)

/-! ## The places in closed form -/

/-- The device `k` places after `c`. -/
def rot (c : Dev nD) (k : Fin 32) : Dev nD := ⟨(c.val + k.val) % 32, Nat.mod_lt _ (by decide)⟩

theorem inbCols : ∀ (s : Fin 32) (a : Fin 2), (![0, s.val * 256] : Fin 2 → ℕ) a + S4096x256.size a ≤ S4096x8192.size a := by decide

/-- The columns of `w` that belong to device `s`. -/
abbrev wAt (s : Fin 32) : Memref sig .tc .hbm S4096x256 .f32 := wSlice ![0, s.val * 256] (inbCols s)
/-- The slot of a receive buffer that device `s` fills. -/
abbrev rAt (s : Fin 32) : Memref sig .tc .vmem S128x256 .bf16 := rSlice ![s.val, 0, 0] (inbC s)

theorem rAt_words (s : Fin 32) : (rAt s).view.WordExact := (hw3.wordExact_slice rfl _ (wordsC s)).reshape _ _

/-- The places of device `c` in closed form. -/
abbrev placesOf (c : Dev nD) : Places where
  dv := rot c
  w k := wAt (rot c k)
  hw _ := View.wordExact_bits rfl
  recvSelf := (recvSem c).sem
  recvFrom i := (recvSem (rot c i.succ)).sem
  rSelf := rAt c
  hSelf := rAt_words c
  rFrom i := rAt (rot c i.succ)
  hFrom i := rAt_words (rot c i.succ)
  off := ![c.val, 0, 0]
  hoff := inbC c
  hpacked := packedC c

theorem off1_eq : ∀ (c : Dev nD) (k : Fin 32), k0_off1 c (BitVec.ofNat 32 k.val) = ![0, (rot c k).val * 256] := by decide +kernel
theorem off5_eq : ∀ (c : Dev nD) (i : Fin 31), k0_off5 c (BitVec.ofNat 32 (1 + i.val)) = ![(rot c i.succ).val] := by decide +kernel
theorem off6_eq : ∀ (c : Dev nD) (i : Fin 31), k0_off6 c (BitVec.ofNat 32 (1 + i.val)) = ![(rot c i.succ).val, 0, 0] := by decide +kernel

theorem wSlice_congr {o o' : Fin 2 → ℕ} {h h'} (e : o = o') : wSlice o h = wSlice o' h' := by subst e; rfl
theorem rSlice_congr {o o' : Fin 3 → ℕ} {h h'} (e : o = o') : rSlice o h = rSlice o' h' := by subst e; rfl
theorem recv_congr {o o' : Fin 1 → ℕ} {h h'} (e : o = o') :
    ((cc0_scratch6.slice (Rect.unit (s := S32) o S1.size h)).squeeze S_ squeezes_S1_S_).sem
      = ((cc0_scratch6.slice (Rect.unit (s := S32) o' S1.size h')).squeeze S_ squeezes_S1_S_).sem := by subst e; rfl

theorem Places.ext' {P Q : Places} (h1 : P.dv = Q.dv) (h2 : P.w = Q.w) (h3 : P.recvSelf = Q.recvSelf) (h4 : P.recvFrom = Q.recvFrom)
    (h5 : P.rSelf = Q.rSelf) (h6 : P.rFrom = Q.rFrom) (h7 : P.off = Q.off) : P = Q := by
  cases P; cases Q; cases h1; cases h2; cases h3; cases h4; cases h5; cases h6; cases h7; rfl

/-- What the printed body computes are the closed forms. -/
theorem printed_eq (c : Dev nD) : printed c = placesOf c :=
  Places.ext' (funext fun k => Fin.ext (devAt_eq c k)) (funext fun k => wSlice_congr (off1_eq c k)) (recv_congr (k0_off3_eq c))
    (funext fun i => recv_congr (off5_eq c i)) (rSlice_congr (k0_off4_eq c)) (funext fun i => rSlice_congr (off6_eq c i)) (k0_off2_eq c)

/-- The body. -/
def body : TcProg F PUnit := Prog.lift .deviceId >>= fun d0 => bodyAt (printed d0)

/-- The printed body is the structured one. -/
theorem cc0_body_eq :
    cc0_body (F := F) (win0_0.stage 0) (hstage0_0 0) (Memref.whole main_arg1) (Memref.isWhole_whole _) (win0_1.stage 0) (hstage0_1 0)
      (win0_2.stage 0) (hstage0_2 0) (win0_3.stage 0) (hstage0_3 0) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 = body (F := F) := by
  chain_rfl

end Cert.KernelIdeal.Hand

end
-- ==== Proof.Proto.lean ====
/- The protocol of the kernel: who waits on which semaphore, who credits it, what comes with the credit.

   Device `c` has one barrier cell, a send cell for each step `d` and a receive cell for each sender `s`. In the only round:
   * the barrier cell of `c` gets one unit of each other device `p`, which hands `c` the slot of its own receive buffer
     that `c` fills; `c` waits for all 31;
   * the send cell of step `d ≠ 0` gets the transfer's credit when `c`'s chunk has been read, with the chunk back;
   * the receive cell of sender `s ≠ c` gets the transfer's credit when `s`'s chunk has landed, with `c`'s slot `s`
     holding that chunk.
   The transfers of `w` into the double buffer stay on one device and are no part of it. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Rounds
public import Idealize.ShloMosaic.Lib.Tactic

@[expose] public section

set_option synthInstance.maxSize 4096

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's rounds, the protocol's rounds, the local transfers' counters -/

abbrev UB : Type := URounds (GSem nD τ sig) (Fin 31)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The devices around the ring -/

/-- The device `i + 1` places after `c`. -/
abbrev fwd (c : Dev nD) (i : Fin 31) : Dev nD := rot c i.succ
/-- The device `i + 1` places before `c`: the one `31 - i` places after it. -/
abbrev back (c : Dev nD) (i : Fin 31) : Dev nD := rot c (Fin.rev i).succ

theorem fwd_back : ∀ (c : Dev nD) (i : Fin 31), fwd (back c i) i = c := by decide +kernel
theorem back_fwd : ∀ (c : Dev nD) (i : Fin 31), back (fwd c i) i = c := by decide +kernel
theorem fwd_ne : ∀ (c : Dev nD) (i : Fin 31), fwd c i ≠ c := by decide +kernel
theorem ne_fwd (c : Dev nD) (i : Fin 31) : c ≠ fwd c i := fun h => fwd_ne c i h.symm
theorem rot_zero : ∀ c : Dev nD, rot c 0 = c := by decide +kernel
theorem rot_injective : ∀ c : Dev nD, Function.Injective (rot c) := by
  have h : ∀ (c : Dev nD) (k k' : Fin 32), rot c k = rot c k' → k = k' := by decide +kernel
  exact fun c k k' => h c k k'
theorem fwd_injective (c : Dev nD) : Function.Injective (fwd c) := fun i j h => Fin.succ_injective _ (rot_injective c h)

/-- The device at distance `i + 1`, as a permutation of the devices. -/
def ringE (i : Fin 31) : Dev nD ≃ Dev nD := ⟨fun c => fwd c i, fun c => back c i, fun c => back_fwd c i, fun c => fwd_back c i⟩
/-- All the devices, by their distance after `c`. -/
def rotE (c : Dev nD) : Fin 32 ≃ Dev nD := Equiv.ofBijective (rot c) ((Finite.injective_iff_bijective (α := Fin 32)).mp (rot_injective c))

theorem bigSep_succ {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]; rfl

/-- A family over the devices, told from device `c`: its own member and the others' by distance. -/
theorem bigSep_around (c : Dev nD) (Φ : Dev nD → sProp 𝕄) :
    bigSep Finset.univ Φ = iprop(Φ c ∗ bigSep Finset.univ fun i : Fin 31 => Φ (fwd c i)) := by
  rw [bigSep_univ_equiv (rotE c) Φ, bigSep_succ]
  show iprop(Φ (rot c 0) ∗ _) = _
  rw [rot_zero]; rfl

/-! ## The cells -/

abbrev barC (c : Dev nD) : GSem nD τ sig := ((c : Thread nD τ), .reg barSem.sem)
abbrev sendC (c : Dev nD) (d : Fin 32) : GSem nD τ sig := ((c : Thread nD τ), .dma (sendSem d).sem)
abbrev recvC (c : Dev nD) (s : Fin 32) : GSem nD τ sig := ((c : Thread nD τ), .dma (recvSem s).sem)

/-- The cells of one device: the barrier's, the steps' send cells, the senders' receive cells. -/
abbrev CK : Type := Unit ⊕ (Fin 32 ⊕ Fin 32)
abbrev csem : CK → SemLoc sig
  | .inl _ => .reg barSem.sem
  | .inr (.inl d) => .dma (sendSem d).sem
  | .inr (.inr s) => .dma (recvSem s).sem
/-- Which of them a semaphore is. -/
def cls : SemLoc sig → Option CK
  | .reg _ => some (.inl ())
  | .dma q => if h : q.val < 6 then none else if h' : q.val < 38 then some (.inr (.inl ⟨q.val - 6, by omega⟩))
      else some (.inr (.inr ⟨q.val - 38, by have := q.isLt; have e : sig.nDmaSem = 70 := rfl; omega⟩))

theorem cls_send : ∀ d : Fin 32, cls (.dma (sendSem d).sem) = some (.inr (.inl d)) := by decide +kernel
theorem cls_recv : ∀ s : Fin 32, cls (.dma (recvSem s).sem) = some (.inr (.inr s)) := by decide +kernel
theorem cls_w : ∀ s : Fin 2, cls (.dma (wSem s).sem) = none := by decide +kernel
theorem cls_csem (k : CK) : cls (csem k) = some k := by
  rcases k with _ | d | s
  · rfl
  · exact cls_send d
  · exact cls_recv s
theorem csem_injective : Function.Injective csem := fun k k' h => Option.some.inj (by rw [← cls_csem k, ← cls_csem k', h])

abbrev kcell (ck : Dev nD × CK) : GSem nD τ sig := ((ck.1 : Thread nD τ), csem ck.2)
theorem kcell_injective : Function.Injective (kcell : Dev nD × CK → GSem nD τ sig) := fun ⟨c, k⟩ ⟨c', k'⟩ h =>
  Prod.ext (congrArg (fun g : GSem nD τ sig => g.1.1) h) (csem_injective (congrArg Prod.snd h))

/-- The credit of one chunk's transfer. -/
abbrev N : ℕ := (rAt 0).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s rows of `x`. -/
def xIn (c : Dev nD) : (cc0_stg0_0 : Ref sig .tc).ty.Contents (Elt F) := (win0_0.blk (0 : Fin 1)).view.read (Elt F) (m ((c : Thread nD τ).loc main_arg0))
/-- Its copies of the two scales. -/
def sxIn (c : Dev nD) : (cc0_stg1_0 : Ref sig .tc).ty.Contents (Elt F) := (win0_1.blk (0 : Fin 1)).view.read (Elt F) (m ((c : Thread nD τ).loc main_arg2))
def swIn (c : Dev nD) : (cc0_stg2_0 : Ref sig .tc).ty.Contents (Elt F) := (win0_2.blk (0 : Fin 1)).view.read (Elt F) (m ((c : Thread nD τ).loc main_arg3))
/-- The product of the scales. -/
def scaleOf (c : Dev nD) : F .f32 :=
  k0_pay1 (((win0_1.stage 0).access (Rect.unit (s := S1) ![0] S1.size inb_S1_S1_0)).read (Elt F) (sxIn m c) (Shape.Idx.first (numel1_S1.symm ▸ Nat.one_pos)))
    (((win0_2.stage 0).access (Rect.unit (s := S1) ![0] S1.size inb_S1_S1_0)).read (Elt F) (swIn m c) (Shape.Idx.first (numel1_S1.symm ▸ Nat.one_pos)))

/-- Device `c`'s copy of `w`, and the columns of it that belong to device `s`. -/
abbrev wIn (c : Dev nD) : (main_arg1 : Ref sig .tc).ty.Contents (Elt F) := m ((c : Thread nD τ).loc main_arg1)
def wCol (c : Dev nD) (s : Fin 32) : FVec F S4096x256 .f32 := (wAt s).view.read (Elt F) (wIn m c)

/-- A chunk from its block of `w`, the rows of `x` and the scale. -/
def pay (v5 : F .f32) (wb : FVec F S4096x256 .f32) (x : FVec F S128x4096 .fp8e4m3) : FVec F S128x256 .bf16 :=
  truncf .bf16 (maximumf (mulf (matmul dot_S128x4096_S4096x256_S128x256_1_0_0_1_n_n none x (truncf .fp8e4m3 wb bitsLt_fp8e4m3_f32)
    (constant S128x256 .f32 0x00000000#32)) (broadcast S128x256 v5)) (broadcast S128x256 (Scalar.ofBits .f32 0x00000000#32))) bitsLt_bf16_f32

theorem pay3_eq (v5 : F .f32) (v : Vec F S1x4096x256 .f32) (x : Vec F S128x4096 .fp8e4m3) :
    k0_pay3 v5 v x = shapeCast S1x128x256 (pay v5 (shapeCast S4096x256 v shapeCasts_S1x4096x256_S4096x256) x) shapeCasts_S128x256_S1x128x256 := rfl

/-- What device `c` computes for device `d`: its rows of the product, `d`'s columns of it. -/
def V (c d : Dev nD) : FVec F S128x256 .bf16 := pay (scaleOf m c) (wCol m c d) (k0_pay2 (xIn m c))

/-- Slot `s` of device `c`'s receive buffer, at some contents; -/
def slotAny (c : Dev nD) (s : Fin 32) : sProp 𝕄 :=
  iprop(∃ f : Buf (Elt F) ((rAt s).view.loc (c : Thread nD τ)), (rAt s).view.loc (c : Thread nD τ) ↦[(rAt s).view.set]{fullShare} f)
/-- holding the chunk `v`. -/
def slotHas (c : Dev nD) (s : Fin 32) (v : FVec F S128x256 .bf16) : sProp 𝕄 :=
  iprop(∃ f : Buf (Elt F) ((rAt s).view.loc (c : Thread nD τ)), ⌜(rAt s).view.read (Elt F) f = v⌝
    ∗ (rAt s).view.loc (c : Thread nD τ) ↦[(rAt s).view.set]{fullShare} f)
/-- Chunk `d` of device `c`'s send buffer, at some contents. -/
def chunkAny (c : Dev nD) (d : Fin 32) : sProp 𝕄 :=
  iprop(∃ f : Buf (Elt F) ((chunk d).view.loc (c : Thread nD τ)), (chunk d).view.loc (c : Thread nD τ) ↦[(chunk d).view.set]{fullShare} f)

theorem storable_some (ℓ : Loc nD τ sig) (S : Finset (Idx ℓ)) : BI.Storable (upEmb : UEmb _ 𝕄) iprop(∃ f : Buf (Elt F) ℓ, ℓ ↦[S]{fullShare} f) := by
  infer_instance
theorem storable_holds (ℓ : Loc nD τ sig) (S : Finset (Idx ℓ)) (P : Buf (Elt F) ℓ → Prop) :
    BI.Storable (upEmb : UEmb _ 𝕄) iprop(∃ f : Buf (Elt F) ℓ, ⌜P f⌝ ∗ ℓ ↦[S]{fullShare} f) := by
  infer_instance
instance slotAny_storable (c : Dev nD) (s) : BI.Storable (upEmb : UEmb _ 𝕄) (slotAny (F := F) c s) := storable_some _ _
instance slotHas_storable (c : Dev nD) (s) (v) : BI.Storable (upEmb : UEmb _ 𝕄) (slotHas (F := F) c s v) := storable_holds _ _ _
instance chunkAny_storable (c : Dev nD) (d) : BI.Storable (upEmb : UEmb _ 𝕄) (chunkAny (F := F) c d) := storable_some _ _

/-! ## The schedule -/

/-- The duties of a cell of device `c` in the only round. -/
def dutiesOf (c : Dev nD) : CK → Finset (Fin 31)
  | .inl _ => Finset.univ
  | .inr (.inl d) => if d = 0 then ∅ else {0}
  | .inr (.inr s) => if s = c then ∅ else {0}
/-- The amount of a duty, -/
def amountOf : CK → ℕ
  | .inl _ => 1
  | .inr _ => N
/-- and what it hands over. -/
def payOf (c : Dev nD) : CK → Fin 31 → sProp 𝕄
  | .inl _, i => slotAny (back c i) c
  | .inr (.inl d), _ => chunkAny c d
  | .inr (.inr s), _ => slotHas c s (V m s c)

theorem amountOf_pos (k : CK) : 0 < amountOf k := by
  rcases k with _ | k
  · exact Nat.one_pos
  · exact N_pos
instance payOf_storable (c : Dev nD) (k : CK) (i : Fin 31) : BI.Storable (upEmb : UEmb _ 𝕄) (payOf m c k i) := by
  rcases k with _ | _ | _ <;> (unfold payOf; infer_instance)

def sched : Rounds.Schedule (GSem nD τ sig) (Fin 31) 𝕄 where
  duties g r := if r = 0 then ((cls g.2).elim ∅ (dutiesOf g.1.1)) else ∅
  unitless _ := False
  amount g _ _ := (cls g.2).elim 1 amountOf
  payload g _ i := (cls g.2).elim iprop(emp) fun k => payOf m g.1.1 k i
  amount_pos g _ _ _ := by
    rcases h : cls g.2 with _ | k
    · exact Nat.one_pos
    · exact amountOf_pos k

instance sched_payload_storable (g : GSem nD τ sig) (r : ℕ) (d : Fin 31) :
    BI.Storable (upEmb : UEmb _ 𝕄) ((sched (F := F) m).payload g r d) := by
  show BI.Storable upEmb ((cls g.2).elim iprop(emp) fun k => payOf m g.1.1 k d)
  rcases cls g.2 with _ | k
  · show BI.Storable upEmb iprop(emp); infer_instance
  · exact payOf_storable m g.1.1 k d

theorem duties_at (c : Dev nD) (k : CK) : (sched m).duties (kcell (c, k)) 0 = dutiesOf c k := by
  show (if 0 = 0 then ((cls (csem k)).elim ∅ (dutiesOf c)) else ∅) = _
  rw [if_pos rfl, cls_csem]; rfl
theorem duties_later (g : GSem nD τ sig) : ∀ r, 1 ≤ r → (sched m).duties g r = ∅ := fun r hr => if_neg (by omega)
theorem amount_at (c : Dev nD) (k : CK) (r : ℕ) (i : Fin 31) : (sched m).amount (kcell (c, k)) r i = amountOf k := by
  show (cls (csem k)).elim 1 amountOf = _
  rw [cls_csem]; rfl
theorem payload_at (c : Dev nD) (k : CK) (r : ℕ) (i : Fin 31) : (sched m).payload (kcell (c, k)) r i = payOf m c k i := by
  show ((cls (csem k)).elim iprop(emp) fun k => payOf m c k i) = _
  rw [cls_csem]; rfl
theorem expect_at (c : Dev nD) (k : CK) : (sched m).expect (kcell (c, k)) 0 = (dutiesOf c k).card * amountOf k := by
  unfold Schedule.expect Schedule.amountOf
  rw [duties_at, Finset.sum_congr rfl fun d _ => amount_at m c k 0 d, Finset.sum_const, smul_eq_mul]

theorem expect_bar (c : Dev nD) : (sched m).expect (barC c) 0 = 31 := (expect_at m c (.inl ())).trans (by rfl)
theorem duties_send (c : Dev nD) (j : Fin 31) : (sched m).duties (sendC c j.succ) 0 = {0} :=
  (duties_at m c (.inr (.inl j.succ))).trans (by simp only [dutiesOf]; rw [if_neg (Fin.succ_ne_zero j)])
theorem duties_recv (c s : Dev nD) (h : s ≠ c) : (sched m).duties (recvC c s) 0 = {0} :=
  (duties_at m c (.inr (.inr s))).trans (show dutiesOf c (.inr (.inr s)) = {0} from if_neg h)
theorem expect_send (c : Dev nD) (j : Fin 31) : (sched m).expect (sendC c j.succ) 0 = N := by
  unfold Schedule.expect Schedule.amountOf; rw [duties_send, Finset.sum_singleton]; exact amount_at m c (.inr (.inl j.succ)) 0 0
theorem expect_recv (c s : Dev nD) (h : s ≠ c) : (sched m).expect (recvC c s) 0 = N := by
  unfold Schedule.expect Schedule.amountOf; rw [duties_recv m c s h, Finset.sum_singleton]; exact amount_at m c (.inr (.inr s)) 0 0

theorem rest_bar (c : Dev nD) : bigSep ((sched m).duties (barC c) 0 \ ∅) (fun d => (sched m).payload (barC c) 0 d)
    = bigSep Finset.univ fun i : Fin 31 => slotAny (F := F) (fwd c i) c := by
  rw [Finset.sdiff_empty, show (sched m).duties (barC c) 0 = Finset.univ from duties_at m c (.inl ()),
    bigSep_univ_equiv Fin.revPerm fun i : Fin 31 => slotAny (F := F) (fwd c i) c]
  exact bigSep_congr fun i _ => payload_at m c (.inl ()) 0 i
theorem rest_send (c : Dev nD) (j : Fin 31) :
    bigSep ((sched m).duties (sendC c j.succ) 0 \ ∅) (fun d => (sched m).payload (sendC c j.succ) 0 d) = chunkAny c j.succ := by
  rw [Finset.sdiff_empty, duties_send, bigSep_singleton]; exact payload_at m c (.inr (.inl j.succ)) 0 0
theorem rest_recv (c s : Dev nD) (h : s ≠ c) :
    bigSep ((sched m).duties (recvC c s) 0 \ ∅) (fun d => (sched m).payload (recvC c s) 0 d) = slotHas c s (V m s c) := by
  rw [Finset.sdiff_empty, duties_recv m c s h, bigSep_singleton]; exact payload_at m c (.inr (.inr s)) 0 0

/-! ## What each device owes -/

/-- The members of a family of tallies from the `n`-th on. -/
def tail (T : Fin 31 → CellTallies nD τ sig Unit) (n : ℕ) : CellTallies nD τ sig Unit := ∑ i ∈ Finset.univ.filter (fun i : Fin 31 => n ≤ i.val), T i

theorem tail_peel (T : Fin 31 → CellTallies nD τ sig Unit) (i : Fin 31) : tail T i.val = tail T (i.val + 1) + T i := by
  unfold tail
  rw [show Finset.univ.filter (fun j : Fin 31 => i.val ≤ j.val) = insert i (Finset.univ.filter fun j : Fin 31 => i.val + 1 ≤ j.val) from by
    ext j; simp only [Finset.mem_filter, Finset.mem_univ, true_and, Finset.mem_insert, Fin.ext_iff]; omega,
    Finset.sum_insert (by simp only [Finset.mem_filter, Finset.mem_univ, true_and]; omega), add_comm]
theorem tail_zero (T : Fin 31 → CellTallies nD τ sig Unit) : tail T 0 = ∑ i, T i := by
  unfold tail; rw [Finset.filter_true_of_mem fun i _ => Nat.zero_le _]
theorem tail_end (T : Fin 31 → CellTallies nD τ sig Unit) : tail T 31 = 0 := by
  unfold tail; rw [Finset.filter_false_of_mem fun i _ => by omega, Finset.sum_empty]

/-- Device `c`'s dues to the receive cells and to the barrier cells of its peers, by distance. -/
abbrev dueR (c : Dev nD) (i : Fin 31) : CellTallies nD τ sig Unit := tallyAt (recvC (fwd c i) c) () N
abbrev dueB (c : Dev nD) (i : Fin 31) : CellTallies nD τ sig Unit := tallyAt (barC (fwd c i)) () 1

/-- What device `c` owes at launch. -/
def O₀ (c : Dev nD) : CellTallies nD τ sig Unit := tail (dueR c) 0 + tail (dueB c) 0

def L (g : GSem nD τ sig) : Finset Unit := if g.1.2 = .tc then {()} else ∅
/-- The barrier cells at 1, the receive cells at 2, everything else at 0. -/
def lv (g : GSem nD τ sig) (_ : Unit) : ℕ := match cls g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_recv (c : Dev nD) (s : Fin 32) : lv (recvC c s) () = 2 := by unfold lv; rw [cls_recv]

theorem tail_pos {T : Fin 31 → CellTallies nD τ sig Unit} {n : ℕ} {g : GSem nD τ sig} {u : Unit} (h : 0 < tail T n g u) : ∃ i, 0 < T i g u := by
  unfold tail at h
  rw [Finset.sum_apply, Finsupp.finsetSum_apply] at h
  obtain ⟨i, -, hi⟩ := Finset.exists_ne_zero_of_sum_ne_zero (Nat.pos_iff_ne_zero.mp h)
  exact ⟨i, Nat.pos_of_ne_zero hi⟩
theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h
theorem dueR_pos {c : Dev nD} {n : ℕ} {g : GSem nD τ sig} {u : Unit} (h : 0 < tail (dueR c) n g u) : ∃ i, g = recvC (fwd c i) c :=
  let ⟨i, hi⟩ := tail_pos h; ⟨i, tallyAt_pos hi⟩
theorem dueB_pos {c : Dev nD} {n : ℕ} {g : GSem nD τ sig} {u : Unit} (h : 0 < tail (dueB c) n g u) : ∃ i, g = barC (fwd c i) :=
  let ⟨i, hi⟩ := tail_pos h; ⟨i, tallyAt_pos hi⟩
theorem O₀_pos {c : Dev nD} {g : GSem nD τ sig} {u : Unit} (h : 0 < O₀ c g u) : (∃ i, g = recvC (fwd c i) c) ∨ ∃ i, g = barC (fwd c i) := by
  unfold O₀ at h
  rw [Pi.add_apply, Finsupp.add_apply] at h
  rcases Nat.eq_zero_or_pos (tail (dueR c) 0 g u) with h0 | h0
  · rw [h0, Nat.zero_add] at h; exact Or.inr (dueB_pos h)
  · exact Or.inl (dueR_pos h0)

/-- A wait on a semaphore of no protocol cell, or on a send cell, is allowed whatever of the protocol is owed. -/
theorem mayWait_low (c : Dev nD) (sm : SemLoc sig) (hq : lv ((c : Thread nD τ), sm) () = 0) (O : CellTallies nD τ sig Unit)
    (hO : O = O₀ c ∨ ∃ n, O = tail (dueR c) n) : (levAts L lv : sProp 𝕄) ⊢ MayWait (c : Thread nD τ) sm () O :=
  have hpos : ∀ g u, 0 < O g u → (∃ i, g = recvC (fwd c i) c) ∨ ∃ i, g = barC (fwd c i) := fun g u hg => by
    rcases hO with rfl | ⟨n, rfl⟩
    · exact O₀_pos hg
    · exact Or.inl (dueR_pos hg)
  MayOwe.of_cut (L := L) (lev := lv) 0 (fun p hp => by rw [Finset.mem_singleton.mp hp, L_tc]; exact Finset.mem_singleton_self _)
    (fun g u hg => by rcases hpos g u hg with ⟨i, rfl⟩ | ⟨i, rfl⟩ <;> exact Finset.mem_singleton_self _)
    (fun p hp => by rw [Finset.mem_singleton.mp hp]; exact hq.le)
    (fun g u hg => by
      rcases hpos g u hg with ⟨i, rfl⟩ | ⟨i, rfl⟩
      · rw [lv_recv]; decide
      · rw [lv_bar]; decide)

/-- At its barrier wait a device owes receive cells only, which lie above its barrier cell. -/
theorem mayWait_bar (c : Dev nD) (n : ℕ) : (levAts L lv : sProp 𝕄) ⊢ MayWait (c : Thread nD τ) (.reg barSem.sem) () (tail (dueR c) n) :=
  MayOwe.of_cut (L := L) (lev := lv) 1 (fun p hp => by rw [Finset.mem_singleton.mp hp, L_tc]; exact Finset.mem_singleton_self _)
    (fun g u hg => by obtain ⟨i, rfl⟩ := dueR_pos hg; exact Finset.mem_singleton_self _)
    (fun p hp => by rw [Finset.mem_singleton.mp hp]; exact (lv_bar c).le)
    (fun g u hg => by obtain ⟨i, rfl⟩ := dueR_pos hg; rw [lv_recv]; decide)

/-- The levels of every cell, kept folded. -/
def levs : sProp 𝕄 := levAts L lv
instance levs_persistent : BI.Persistent (levs (F := F)) := by unfold levs; infer_instance

theorem levs_bar (c : Dev nD) (n : ℕ) : (levs : sProp 𝕄) ⊢ MayWait (c : Thread nD τ) (.reg barSem.sem) () (tail (dueR c) n) := by
  have h := mayWait_bar (F := F) c n
  unfold levs
  exact h
theorem levs_w (c : Dev nD) (s : Fin 2) (n : ℕ) :
    (levs : sProp 𝕄) ⊢ MayWait (c : Thread nD τ) (.dma (wSem s).sem) () (tail (dueR c) n) := by
  have h := mayWait_low (F := F) c (.dma (wSem s).sem) (by unfold lv; rw [cls_w]) (tail (dueR c) n) (.inr ⟨n, rfl⟩)
  unfold levs
  exact h

end Cert.KernelIdeal.Hand

end
-- ==== Proof.Steps.lean ====
/- The pieces of the body's run that talk across devices, and the rule for a loop of the body. -/
module

public import proofs.«01_k».proof.Proof.Proto

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- What device `c` must hold for the program `p` to run and end in `Q`. -/
abbrev WP {α : Type} (c : Dev nD) (p : TcProg F α) (Q : α → sProp 𝕄) : sProp 𝕄 :=
  wp frame (wpE (defs₀ (F := F)) 𝒱₀ (c : Thread nD τ) none) Set.univ p Q

/-- One program after another, with `R` left alone by the first. -/
theorem wp_seq {α β : Type} {c : Dev nD} {p : TcProg F α} {k : α → TcProg F β} {P R : sProp 𝕄} {Q : α → sProp 𝕄} {S : β → sProp 𝕄}
    (h1 : P ⊢ WP c p Q) (h2 : ∀ a, iprop(Q a ∗ R) ⊢ WP c (k a) S) : iprop(P ∗ R) ⊢ WP c (p >>= k) S := by
  unfold WP
  rw [wp_bind]
  exact (sep_mono_left h1).trans ((wp_frame_r _ _ _).trans (wp_mono _ _ _ h2))

/-- A loop of the body: step `i` turns `A i` into `B i` and takes `R i` to `R (i + 1)`. -/
theorem wp_seqN {c : Dev nD} : ∀ {n : ℕ} {f : Fin n → TcProg F PUnit} {A B : Fin n → sProp 𝕄} {R : ℕ → sProp 𝕄}
    (h : ∀ i : Fin n, iprop(A i ∗ R i.val) ⊢ WP c (f i) fun _ => iprop(B i ∗ R (i.val + 1))),
    iprop(bigSep Finset.univ A ∗ R 0) ⊢ WP c (seqN n f) fun _ => iprop(bigSep Finset.univ B ∗ R n)
  | 0, f, A, B, R, h => by
    unfold WP seqN
    rw [Finset.univ_eq_empty, bigSep_empty, bigSep_empty, Prog.pure_eq_ret, wp_ret]
    iintro H; imodintro; iexact H
  | n + 1, f, A, B, R, h => by
    rw [bigSep_succ, bigSep_succ]
    have ih := wp_seqN (c := c) (f := fun i => f i.succ) (A := fun i => A i.succ) (B := fun i => B i.succ) (R := fun k => R (k + 1))
      (fun i => h i.succ)
    unfold seqN
    have h0 : iprop((A 0 ∗ bigSep Finset.univ fun i : Fin n => A i.succ) ∗ R 0) ⊢ iprop((A 0 ∗ R 0) ∗ bigSep Finset.univ fun i : Fin n => A i.succ) := by
      iintro ⟨⟨H1, H2⟩, H3⟩
      isplitr [H2]
      · isplitl [H1]; · iexact H1
        iexact H3
      · iexact H2
    have h1 : iprop((B 0 ∗ R (0 + 1)) ∗ bigSep Finset.univ fun i : Fin n => A i.succ)
        ⊢ iprop(B 0 ∗ ((bigSep Finset.univ fun i : Fin n => A i.succ) ∗ R (0 + 1))) := by
      iintro ⟨⟨HB, HR⟩, HA⟩
      isplitl [HB]; · iexact HB
      isplitl [HA]; · iexact HA
      iexact HR
    have h2 : iprop(B 0 ∗ ((bigSep Finset.univ fun i : Fin n => B i.succ) ∗ R (n + 1)))
        ⊢ iprop((B 0 ∗ bigSep Finset.univ fun i : Fin n => B i.succ) ∗ R (n + 1)) := by
      iintro ⟨HB, HA, HR⟩
      isplitr [HR]
      · isplitl [HB]; · iexact HB
        iexact HA
      · iexact HR
    exact h0.trans (wp_seq (h 0) fun _ => h1.trans ((sep_mono_right ih).trans ((wp_frame_l _ _ _).trans (wp_mono _ _ _ fun _ => h2))))

section Run

variable (m : (ℓ : Loc nD τ sig) → Buf (Elt F) ℓ) (K : Dev nD × CK → ℕ)

/-- The cells' invariants, under the names the launch allocated them at, and that each cell has reached its only round. -/
def records : sProp 𝕄 :=
  iprop((bigSep Finset.univ fun ck : Dev nD × CK => cellInv ER (sched m) (K ck) (kcell ck))
    ∗ bigSep Finset.univ fun ck : Dev nD × CK => reached ER (kcell ck) 0)
instance records_persistent : BI.Persistent (records m K) := by unfold records; infer_instance

/-- That and the levels: what every step may use and keeps. -/
def env : sProp 𝕄 := iprop(records m K ∗ levs)
instance env_persistent : BI.Persistent (env m K) := by unfold env; infer_instance

theorem cells_at (ck : Dev nD × CK) :
    (bigSep Finset.univ fun ck : Dev nD × CK => cellInv ER (sched m) (K ck) (kcell ck)) ⊢ cellInv ER (sched m) (K ck) (kcell ck) :=
  bigSep_elim (Finset.mem_univ ck)
theorem rounds_at (ck : Dev nD × CK) :
    (bigSep Finset.univ fun ck : Dev nD × CK => (reached ER (kcell ck) 0 : sProp 𝕄)) ⊢ reached ER (kcell ck) 0 :=
  bigSep_elim (Finset.mem_univ ck)
theorem inv_at (c : Dev nD) (k : CK) : env m K ⊢ cellInv ER (sched m) (K (c, k)) (kcell (c, k)) := by
  unfold env records
  iintro ⟨⟨H, -⟩, -⟩
  iapply (cells_at m K (c, k)); iexact H
theorem reached_at (c : Dev nD) (k : CK) : env m K ⊢ reached ER (kcell (c, k)) 0 := by
  unfold env records
  iintro ⟨⟨-, H⟩, -⟩
  iapply (rounds_at (F := F) (c, k)); iexact H
theorem env_wait_bar (c : Dev nD) (n : ℕ) : env m K ⊢ (MayWait (c : Thread nD τ) (.reg barSem.sem) () (tail (dueR c) n) : sProp 𝕄) := by
  unfold env
  iintro ⟨-, H⟩
  iapply (levs_bar (F := F) c n); iexact H
theorem env_wait_w (c : Dev nD) (s : Fin 2) (n : ℕ) :
    env m K ⊢ (MayWait (c : Thread nD τ) (.dma (wSem s).sem) () (tail (dueR c) n) : sProp 𝕄) := by
  unfold env
  iintro ⟨-, H⟩
  iapply (levs_w (F := F) c s n); iexact H

/-- What is owed, whatever has been waited on. -/
def owesE (c : Dev nD) (O : CellTallies nD τ sig Unit) : sProp 𝕄 := iprop(∃ W, owes (c : Thread nD τ) O W)

variable (c : Dev nD)

/-! ## The entry handshake -/

/-- The signal to the device `i + 1` places on hands it the slot it fills. -/
theorem signal_step (i : Fin 31) :
    iprop((dutyTok ER (barC (fwd c i)) 0 i ∗ slotAny c (fwd c i)) ∗ (env m K ∗ owesE c (tail (dueR c) 0 + tail (dueB c) i.val)))
      ⊢ WP c (signalTo (placesOf c) i) fun _ => iprop(emp ∗ (env m K ∗ owesE c (tail (dueR c) 0 + tail (dueB c) (i.val + 1)))) := by
  unfold WP signalTo semSignalWord owesE
  simp only [Prog.lift]
  iintro ⟨⟨Ht, Hs⟩, ⟨#He, ⟨%W, HO⟩⟩⟩
  iapply (Rounds.wp_signal 𝒱₀ ER (sched m) (c : Thread nD τ) none (dst := (fwd c i : Thread nD τ)) (κ := K (fwd c i, .inl ()))
      (r := 0) (d := i) (by rw [show (sched m).duties ((fwd c i : Thread nD τ), .reg barSem.sem) 0 = Finset.univ from duties_at m (fwd c i) (.inl ())]; exact Finset.mem_univ _)
      ((amount_at m (fwd c i) (.inl ()) 0 i).trans (by decide)) () (O₀ := tail (dueR c) 0 + tail (dueB c) i.val)
      (tail (dueR c) 0 + tail (dueB c) (i.val + 1)) (by rw [tail_peel (dueB c) i, ← add_assoc]; rfl))
    $$ [HO Ht Hs]
  · isplitr; · iapply (inv_at m K (fwd c i) (.inl ())); iexact He
    isplitl [HO]; · iexact HO
    isplitl [Ht]; · iexact Ht
    isplitl [Hs]
    · rw [show (sched m).payload ((fwd c i : Thread nD τ), .reg barSem.sem) 0 i = slotAny (back (fwd c i) i) (fwd c i) from payload_at m (fwd c i) (.inl ()) 0 i, back_fwd]
      iexact Hs
    iapply (reached_at m K (fwd c i) (.inl ())); iexact He
  iintro HO
  rw [wp_ret]; imodintro
  isplitr; · iempintro
  isplitr; · iexact He
  iexists W; iexact HO

/-- The barrier wait: every peer has entered, and device `c` holds its slot of each of their receive buffers. -/
theorem barrier_wait :
    iprop(cred (tallyAt (barC c) () 31) ∗ atPos ER (barC c) 0 ∅ 0 ∗ env m K ∗ owesE c (tail (dueR c) 0))
      ⊢ WP c (semWaitWord barSem.sem 31#32) fun _ =>
          iprop((bigSep Finset.univ fun i : Fin 31 => slotAny (F := F) (fwd c i) c) ∗ semVal (barC c) 0 ∗ env m K ∗ owesE c (tail (dueR c) 0)) := by
  unfold WP semWaitWord owesE
  simp only [Prog.lift]
  iintro ⟨Hc, Hat, #He, ⟨%W, HO⟩⟩
  iapply (Rounds.wp_wait_rest_token 𝒱₀ ER (sched m) (c : Thread nD τ) none (κ := K (c, .inl ()))
      (wpE_semWait_eq 𝒱₀ (c : Thread nD τ) none Set.univ) (Set.mem_univ _) () (O := tail (dueR c) 0) (W := W) (R := 0) (m := 0) (T := ∅)
      (by rw [expect_bar]; simp)) $$ [Hc HO Hat]
  · isplitr; · iapply (inv_at m K c (.inl ())); iexact He
    isplitl [Hc]; · iexact Hc
    isplitl [HO]; · iexact HO
    isplitr; · iapply (env_wait_bar m K c 0); iexact He
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barC c))) $$ [Hat] with Hz
  · isplitr; · iapply (inv_at m K c (.inl ())); iexact He
    iexact Hat
  rw [wp_ret]; imodintro
  isplitl [Hp]; · iexact Hp
  isplitl [Hz]; · iexact Hz
  isplitr; · iexact He
  iexists _; iexact HO

/-! ## The waits at the end -/

/-- A wait for what device `s` sent: its chunk is in the slot, and the cell is done with. -/
theorem waitRecv_step (i : Fin 31) :
    iprop((cred (tallyAt (recvC c (fwd c i)) () N) ∗ atPos ER (recvC c (fwd c i)) 0 ∅ 0) ∗ (env m K ∗ owesE c 0))
      ⊢ WP c (waitRecv (placesOf c) i) fun _ =>
          iprop((slotHas c (fwd c i) (V m (fwd c i) c) ∗ semVal (recvC c (fwd c i)) 0) ∗ (env m K ∗ owesE c 0)) := by
  unfold WP waitRecv owesE
  simp only [Prog.lift]
  iintro ⟨⟨Hc, Hat⟩, ⟨#He, ⟨%W, HO⟩⟩⟩
  iapply (Rounds.wp_wait_rest_token 𝒱₀ ER (sched m) (c : Thread nD τ) none (κ := K (c, .inr (.inr (fwd c i))))
      (wpE_waitDma2_eq 𝒱₀ (c : Thread nD τ) none Set.univ) (Set.mem_univ _) () (O := 0) (W := W) (R := 0) (m := 0) (T := ∅)
      (by rw [Nat.zero_add]; exact (expect_recv m c (fwd c i) (fwd_ne c i)).symm)) $$ [Hc HO Hat]
  · isplitr; · iapply (inv_at m K c (.inr (.inr (fwd c i)))); iexact He
    isplitl [Hc]; · iexact Hc
    isplitl [HO]; · iexact HO
    isplitr; · rw [MayWait_zero]; iempintro
    iexact Hat
  iintro ⟨HO, Hat, -, Hpay⟩
  ihave Hp := (Entails.of_eq (rest_recv m c (fwd c i) (fwd_ne c i))) $$ Hpay
  imod (Rounds.cell_close ER (sched m) (Set.mem_univ (K (c, .inr (.inr (fwd c i))))) (fun h => h) (R := 0 + 1) (duties_later m (recvC c (fwd c i)))) $$ [Hat] with Hz
  · isplitr; · iapply (inv_at m K c (.inr (.inr (fwd c i)))); iexact He
    iexact Hat
  rw [wp_ret]; imodintro
  isplitl [Hp Hz]
  · isplitl [Hp] <;> iassumption
  isplitr; · iexact He
  iexists _; iexact HO

/-- A wait for a send of one's own: the chunk is free again, and the cell is done with. -/
theorem waitSend_step (j : Fin 31) :
    iprop((cred (tallyAt (sendC c j.succ) () N) ∗ atPos ER (sendC c j.succ) 0 ∅ 0) ∗ (env m K ∗ owesE c 0))
      ⊢ WP c (waitSend (placesOf c) j) fun _ => iprop((chunkAny c j.succ ∗ semVal (sendC c j.succ) 0) ∗ (env m K ∗ owesE c 0)) := by
  unfold WP waitSend owesE
  simp only [Prog.lift]
  iintro ⟨⟨Hc, Hat⟩, ⟨#He, ⟨%W, HO⟩⟩⟩
  iapply (Rounds.wp_wait_rest_token 𝒱₀ ER (sched m) (c : Thread nD τ) none (κ := K (c, .inr (.inl j.succ)))
      (wpE_waitDma2_eq 𝒱₀ (c : Thread nD τ) none Set.univ) (Set.mem_univ _) () (O := 0) (W := W) (R := 0) (m := 0) (T := ∅)
      (by rw [Nat.zero_add]; exact (expect_send m c j).symm)) $$ [Hc HO Hat]
  · isplitr; · iapply (inv_at m K c (.inr (.inl j.succ))); iexact He
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (sched m) (Set.mem_univ (K (c, .inr (.inl j.succ)))) (fun h => h) (R := 0 + 1) (duties_later m (sendC c j.succ))) $$ [Hat] with Hz
  · isplitr; · iapply (inv_at m K c (.inr (.inl j.succ))); iexact He
    iexact Hat
  rw [wp_ret]; imodintro
  isplitl [Hp Hz]
  · isplitl [Hp] <;> iassumption
  isplitr; · iexact He
  iexists _; iexact HO

/-! ## A send -/

theorem slotHas_intro (d : Dev nD) (s : Fin 32) (v : FVec F S128x256 .bf16) (f : Buf (Elt F) ((rAt s).view.loc (d : Thread nD τ)))
    (h : (rAt s).view.read (Elt F) f = v) : ((rAt s).view.loc (d : Thread nD τ) ↦[(rAt s).view.set]{fullShare} f : sProp 𝕄) ⊢ slotHas d s v := by
  unfold slotHas
  iintro H; iexists f
  isplitr
  · ipureintro; exact h
  · iexact H

/-- Chunk `d` of the send buffer, holding `v`. -/
def chunkHas (d : Fin 32) (v : FVec F S128x256 .bf16) : sProp 𝕄 :=
  iprop(∃ f : Buf (Elt F) ((chunk d).view.loc (c : Thread nD τ)), ⌜(chunk d).view.read (Elt F) f = v⌝
    ∗ (chunk d).view.loc (c : Thread nD τ) ↦[(chunk d).view.set]{fullShare} f)

theorem send_step (j : Fin 31) :
    iprop(chunkHas c j.succ (V m c (fwd c j)) ∗ slotAny (fwd c j) c ∗ dutyTok ER (sendC c j.succ) 0 0 ∗ dutyTok ER (recvC (fwd c j) c) 0 0
        ∗ env m K ∗ owesE c (tail (dueR c) j.val))
      ⊢ WP c (sendChunk (placesOf c) j.succ) fun _ =>
          iprop(cred (tallyAt (sendC c j.succ) () N) ∗ env m K ∗ owesE c (tail (dueR c) (j.val + 1))) := by
  unfold WP sendChunk owesE chunkHas slotAny
  simp only [Prog.lift]
  iintro ⟨⟨%fs, %hfs, Hs⟩, ⟨%fd, Hd⟩, HtS, HtR, #He, ⟨%W, HO⟩⟩
  have hland : (rAt c).view.read (Elt F) ((rAt c).view.write (Elt F) fd ((chunk j.succ).view.read (Elt F) fs) Finset.univ) = V m c (fwd c j) :=
    (View.read_write_univ (v := (rAt c).view) fd _).trans hfs
  iapply (Rounds.wp_send_pointsTo 𝒱₀ ER (sched m) (c : Thread nD τ) none (κ₁ := K (c, .inr (.inl j.succ))) (κ₂ := K (fwd c j, .inr (.inr c)))
    (c' := (fwd c j : Thread nD τ)) (src := chunk j.succ) (dst := rAt c) (r₁ := 0) (r₂ := 0) (d₁ := 0) (d₂ := 0) (fs := fs) (fd := fd)
    (by rw [duties_send]; exact Finset.mem_singleton_self _) (by rw [duties_recv m (fwd c j) c (ne_fwd c j)]; exact Finset.mem_singleton_self _)
    () () N rfl (amount_at m c (.inr (.inl j.succ)) 0 0) (amount_at m (fwd c j) (.inr (.inr c)) 0 0) (tail (dueR c) (j.val + 1)) (tail_peel (dueR c) j) (W := W)
    (by rw [show (sched m).payload ((c : Thread nD τ), .dma (sendSem j.succ).sem) 0 0 = chunkAny c j.succ from payload_at m c (.inr (.inl j.succ)) 0 0]
        unfold chunkAny; iintro H; iexists fs; iexact H)
    (by rw [show (sched m).payload ((fwd c j : Thread nD τ), .dma (recvSem c).sem) 0 0 = slotHas (fwd c j) c (V m c (fwd c j)) from payload_at m (fwd c j) (.inr (.inr c)) 0 0]
        exact slotHas_intro (fwd c j) c _ _ hland))
    $$ [Hs Hd HO HtS HtR]
  · isplitr; · iapply (inv_at m K c (.inr (.inl j.succ))); iexact He
    isplitr; · iapply (inv_at m K (fwd c j) (.inr (.inr c))); iexact He
    isplitl [Hs]; · iexact Hs
    isplitl [Hd]; · iexact Hd
    isplitl [HO]; · iexact HO
    isplitl [HtS]; · iexact HtS
    isplitr; · iapply (reached_at m K c (.inr (.inl j.succ))); iexact He
    isplitl [HtR]; · iexact HtR
    iapply (reached_at m K (fwd c j) (.inr (.inr c))); iexact He
  iintro ⟨Hc, HO⟩
  rw [wp_ret]; imodintro
  isplitl [Hc]; · iexact Hc
  isplitr; · iexact He
  iexists W; iexact HO

end Run

end Cert.KernelIdeal.Hand

end
-- ==== Proof.Local.lean ====
/- The pieces of the body's run that stay on one device: the double buffer of `w`, a chunk's computation,
   the casts and copies, and with them one step of the loop. -/
module

public import proofs.«01_k».proof.Proof.Steps

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The double buffer -/

/-- The credit of one transfer of a block of `w`. -/
abbrev NW : ℕ := (wSlot 0).view.dmaCredit
theorem NW_pos : 0 < NW := View.dmaCredit_pos _ (by decide)

/-- The share of `w` that the transfers into slot `s` read at. -/
def wShare (s : Fin 2) : PosShare TreeShare := if s = 0 then fullShare.left else fullShare.right

/-- Slot `s` holding some block; -/
def wAny (s : Fin 2) : sProp 𝕄 :=
  iprop(∃ f : Buf (Elt F) ((wSlot s).view.loc (c : Thread nD τ)), (wSlot s).view.loc (c : Thread nD τ) ↦[(wSlot s).view.set]{fullShare} f)
/-- holding the block `v`. -/
def wHas (s : Fin 2) (v : FVec F S4096x256 .f32) : sProp 𝕄 :=
  iprop(∃ f : Buf (Elt F) ((wSlot s).view.loc (c : Thread nD τ)), ⌜(wSlot s).view.read (Elt F) f = v⌝
    ∗ (wSlot s).view.loc (c : Thread nD τ) ↦[(wSlot s).view.set]{fullShare} f)

/-- What a transfer into slot `s` needs besides the slot: its semaphore at rest and its share of `w`. -/
def wIdle (s : Fin 2) : sProp 𝕄 :=
  iprop(semVal ((c : Thread nD τ), .dma (wSem s).sem) 0 ∗ (c : Thread nD τ).loc main_arg1 ↦[Finset.univ]{wShare s} wIn m c)

/-- Slot `s` with no transfer into it under way. -/
def Free (s : Fin 2) : sProp 𝕄 := iprop(wAny (F := F) c s ∗ wIdle m c s)

/-- Block `k` under way into slot `s`. -/
def Fly (s : Fin 2) (k : Fin 32) : sProp 𝕄 :=
  iprop(∃ fd : Buf (Elt F) ((wSlot s).view.loc (c : Thread nD τ)),
    Transfers.Flight EC (c : Thread nD τ) (.dma (wSem s).sem) () NW
      iprop(((wSlot s).view.loc (c : Thread nD τ) ↦[(wSlot s).view.set]{fullShare} (wSlot s).view.write (Elt F) fd (wCol m c (rot c k)) Finset.univ)
        ∗ (wAt (rot c k)).view.loc (c : Thread nD τ) ↦[(wAt (rot c k)).view.set]{wShare s} wIn m c)
    ∗ (wAt (rot c k)).view.loc (c : Thread nD τ) ↦[Finset.univ \ (wAt (rot c k)).view.set]{wShare s} wIn m c)

theorem wHas_any (s : Fin 2) (v : FVec F S4096x256 .f32) : wHas c s v ⊢ wAny c s := by
  unfold wHas wAny
  iintro ⟨%f, -, H⟩; iexists f; iexact H

theorem wStart_step (k : Fin 32) (s : Fin 2) : Free m c s ⊢ WP c (wStart (placesOf c) k s) fun _ => Fly m c s k := by
  unfold WP wStart Free wAny wIdle
  simp only [Prog.lift]
  iintro ⟨⟨%fd, Hd⟩, Hv, Hw⟩
  ihave Hw2 := (show ((c : Thread nD τ).loc main_arg1 ↦[Finset.univ]{wShare s} wIn m c : sProp 𝕄)
      ⊢ iprop(((wAt (rot c k)).view.loc (c : Thread nD τ) ↦[(wAt (rot c k)).view.set]{wShare s} wIn m c)
        ∗ (wAt (rot c k)).view.loc (c : Thread nD τ) ↦[Finset.univ \ (wAt (rot c k)).view.set]{wShare s} wIn m c)
      from (pointsTo_split_subset (Finset.subset_univ _)).1) $$ Hw
  icases Hw2 with ⟨Hw, Hrest⟩
  iapply (Transfers.wp_dmaLocal EC 𝒱₀ (c : Thread nD τ) none (src := wAt (rot c k)) (dst := wSlot s) (sm := .dma (wSem s).sem)
    (Sd := (wSlot s).view.set) (fs := wIn m c) (fd := fd) () NW rfl NW_pos (Finset.Subset.refl _)) $$ [Hw Hd Hv]
  · isplitl [Hw]; · iexact Hw
    isplitl [Hd]; · iexact Hd
    iexact Hv
  iintro Hf
  rw [wp_ret]; imodintro
  unfold Fly
  iexists fd
  isplitl [Hf]
  · iexact Hf
  · iexact Hrest

theorem wWait_step (k : Fin 32) (s : Fin 2) (n : ℕ) :
    iprop(Fly m c s k ∗ env m K ∗ owesE c (tail (dueR c) n))
      ⊢ WP c (wWait (placesOf c) k s) fun _ =>
          iprop((wHas c s (wCol m c (rot c k)) ∗ wIdle m c s) ∗ env m K ∗ owesE c (tail (dueR c) n)) := by
  unfold WP wWait Fly owesE
  simp only [Prog.lift]
  iintro ⟨⟨%fd, Hf, Hrest⟩, #He, ⟨%W, HO⟩⟩
  iapply (Transfers.wp_waitLocalO EC 𝒱₀ (c : Thread nD τ) none (sem := (wSem s).sem) (srcw := wAt (rot c k)) (dstw := wSlot s) ()
    (N := NW) rfl (O := tail (dueR c) n) (W := W)) $$ [Hf HO]
  · isplitl [Hf]; · iexact Hf
    isplitl [HO]; · iexact HO
    iapply (env_wait_w m K c s n); iexact He
  iintro ⟨⟨Hd, Hw⟩, Hv, HO⟩
  rw [wp_ret]; imodintro
  isplitr [HO]
  · isplitl [Hd]
    · unfold wHas
      iexists _
      isplitr
      · ipureintro; exact View.read_write_univ (v := (wSlot s).view) fd (wCol m c (rot c k))
      · iexact Hd
    · unfold wIdle
      isplitl [Hv]; · iexact Hv
      iapply (show iprop(((wAt (rot c k)).view.loc (c : Thread nD τ) ↦[(wAt (rot c k)).view.set]{wShare s} wIn m c)
          ∗ (wAt (rot c k)).view.loc (c : Thread nD τ) ↦[Finset.univ \ (wAt (rot c k)).view.set]{wShare s} wIn m c)
          ⊢ ((c : Thread nD τ).loc main_arg1 ↦[Finset.univ]{wShare s} wIn m c : sProp 𝕄)
        from (pointsTo_split_subset (Finset.subset_univ _)).2)
      isplitl [Hw]; · iexact Hw
      iexact Hrest
  · isplitr; · iexact He
    iexists _; iexact HO

/-! ## A chunk -/

/-- The rows of `x`, cast. -/
def xHas (x : FVec F S128x4096 .fp8e4m3) : sProp 𝕄 :=
  iprop((c : Thread nD τ).loc cc0_scratch0 ↦[Finset.univ]{fullShare} (x : Buf (Elt F) ((c : Thread nD τ).loc cc0_scratch0)))

theorem loadW_step (s : Fin 2) (v : FVec F S4096x256 .f32) :
    wHas c s v ⊢ WP c (loadW s) fun w => iprop(⌜shapeCast S4096x256 w shapeCasts_S1x4096x256_S4096x256 = v⌝ ∗ wHas c s v) := by
  unfold WP loadW wHas
  simp only [Prog.lift]
  iintro ⟨%f, %hf, H⟩
  iapply (wp_load_rect 𝒱₀ (c : Thread nD τ) none Set.univ (m := Memref.whole cc0_scratch1)
    (r := Rect.unit (s := S2x4096x256) ![s.val, 0, 0] S1x4096x256.size (inbW s)) (S := (wSlot s).view.set) (f := f)
    (View.set_reshape _ _).ge) $$ H
  iintro H
  rw [wp_ret]; imodintro
  isplitr
  · ipureintro; exact hf
  · iexists f
    isplitr
    · ipureintro; exact hf
    · iexact H

theorem loadX_step (x : FVec F S128x4096 .fp8e4m3) : xHas c x ⊢ WP c loadX fun y => iprop(⌜y = x⌝ ∗ xHas c x) := by
  unfold WP loadX xHas
  simp only [Prog.lift]
  iintro H
  iapply (wp_load 𝒱₀ (c : Thread nD τ) none Set.univ (m := Memref.whole cc0_scratch0)
    (r := (Rect.unit (s := S128x4096) ![0, 0] S128x4096.size inb_S128x4096_S128x4096_0_0).toLoadRect) (S := Finset.univ) (f := x)
    (Finset.subset_univ _)) $$ H
  iintro H
  rw [wp_ret]; imodintro
  isplitr
  · ipureintro
    exact Memref.readAt_unit_zero (Elt F) cc0_scratch0 (by funext a; fin_cases a <;> rfl) _ x
  · iexact H

/-- Chunk `d`, computed from slot `s`. -/
theorem compute_step (v5 : F .f32) (d : Fin 32) (s : Fin 2) (v : FVec F S4096x256 .f32) (x : FVec F S128x4096 .fp8e4m3) :
    iprop(wHas c s v ∗ xHas c x ∗ chunkAny c d) ⊢ WP c (compute v5 d s) fun _ => iprop(wHas c s v ∗ xHas c x ∗ chunkHas c d (pay v5 v x)) := by
  unfold compute
  refine wp_seq (loadW_step c s v) fun w => ?_
  have h1 : iprop((⌜shapeCast S4096x256 w shapeCasts_S1x4096x256_S4096x256 = v⌝ ∗ wHas c s v) ∗ xHas c x ∗ chunkAny c d)
      ⊢ iprop(xHas c x ∗ ((⌜shapeCast S4096x256 w shapeCasts_S1x4096x256_S4096x256 = v⌝ ∗ wHas c s v) ∗ chunkAny c d)) := by
    iintro ⟨H1, H2, H3⟩
    isplitl [H2]; · iexact H2
    isplitl [H1]; · iexact H1
    iexact H3
  refine h1.trans (wp_seq (loadX_step c x) fun y => ?_)
  unfold WP chunkAny
  simp only [Prog.lift, Prog.bind_op, Prog.bind_ret]
  iintro ⟨⟨%hy, Hx⟩, ⟨%hw, Hw⟩, ⟨%f, H⟩⟩
  subst hy
  iapply (wp_load_rect 𝒱₀ (c : Thread nD τ) none Set.univ (m := Memref.whole cc0_scratch2)
    (r := Rect.unit (s := S32x128x256) ![d.val, 0, 0] S1x128x256.size (inbC d)) (S := (chunk d).view.set) (f := f)
    (View.set_reshape _ _).ge) $$ H
  iintro H
  iapply (wp_store 𝒱₀ (c : Thread nD τ) none Set.univ (m := Memref.whole cc0_scratch2)
    (r := Rect.unit (s := S32x128x256) ![d.val, 0, 0] S1x128x256.size (inbC d)) (S := (chunk d).view.set) (f := f) (Mk := Finset.univ)
    (View.set_reshape _ _).ge) $$ H
  iintro H
  rw [wp_ret]; imodintro
  isplitl [Hw]; · iexact Hw
  isplitl [Hx]; · iexact Hx
  unfold chunkHas
  iexists _
  isplitr
  · ipureintro
    refine (congrArg (fun u => shapeCast S128x256 u shapeCasts_S1x128x256_S128x256)
      (View.read_write_univ (v := (Memref.whole cc0_scratch2).access (Rect.unit (s := S32x128x256) ![d.val, 0, 0] S1x128x256.size (inbC d))) f (k0_pay3 v5 w y))).trans ?_
    rw [pay3_eq, hw, shapeCast_shapeCast]
  · iexact H

/-- A step of a program whose rule is known, and then the rest of it. -/
theorem wp_use {c : Dev nD} {α β : Type} {p : TcProg F α} {k : α → TcProg F β} {P : sProp 𝕄} {Q : α → sProp 𝕄} {S : β → sProp 𝕄}
    (h : P ⊢ WP c p Q) : P ⊢ iprop((∀ a, Q a -∗ WP c (k a) S) -∗ WP c (p >>= k) S) := by
  have h2 : iprop(P ∗ ∀ a, Q a -∗ WP c (k a) S) ⊢ WP c (p >>= k) S := by
    refine wp_seq h fun a => ?_
    iintro ⟨HQ, Hk⟩
    ispecialize Hk $$ %a
    iapply Hk; iexact HQ
  iintro HP Hk
  iapply h2
  isplitl [HP]; · iexact HP
  iexact Hk

/-- The same for the last step of a program. -/
theorem wp_last {c : Dev nD} {α : Type} {p : TcProg F α} {P : sProp 𝕄} {Q S : α → sProp 𝕄}
    (h : P ⊢ WP c p Q) : P ⊢ iprop((∀ a, Q a -∗ S a) -∗ WP c p S) := by
  have h2 : iprop(P ∗ ∀ a, Q a -∗ S a) ⊢ WP c p S := by
    refine (sep_mono_left h).trans ((wp_frame_r _ _ _).trans (wp_mono _ _ _ fun a => ?_))
    iintro ⟨HQ, Hk⟩
    ispecialize Hk $$ %a
    iapply Hk; iexact HQ
  iintro HP Hk
  iapply h2
  isplitl [HP]; · iexact HP
  iexact Hk

/-! ## One step -/

/-- The wait for block `j + 1`, the chunk from it, and its send. -/
theorem finish_step (j : Fin 31) (s : Fin 2) :
    iprop((Fly m c s j.succ ∗ xHas c (k0_pay2 (xIn m c)) ∗ env m K ∗ owesE c (tail (dueR c) j.val))
        ∗ (chunkAny c j.succ ∗ slotAny (fwd c j) c ∗ dutyTok ER (sendC c j.succ) 0 0 ∗ dutyTok ER (recvC (fwd c j) c) 0 0))
      ⊢ WP c (do wWait (placesOf c) j.succ s; compute (scaleOf m c) j.succ s; sendChunk (placesOf c) j.succ) fun _ =>
          iprop(cred (tallyAt (sendC c j.succ) () N)
            ∗ Free m c s ∗ xHas c (k0_pay2 (xIn m c)) ∗ env m K ∗ owesE c (tail (dueR c) (j.val + 1))) := by
  iintro ⟨⟨Hf, Hx, #He, HO⟩, Hc, Hs, Ht1, Ht2⟩
  iapply (wp_use (wWait_step m K c j.succ s j.val)) $$ [Hf HO]
  · isplitl [Hf]; · iexact Hf
    isplitr; · iexact He
    iexact HO
  iintro %a ⟨⟨Hw, Hi⟩, -, HO⟩
  iapply (wp_use (compute_step c (scaleOf m c) j.succ s (wCol m c (rot c j.succ)) (k0_pay2 (xIn m c)))) $$ [Hw Hx Hc]
  · isplitl [Hw]; · iexact Hw
    isplitl [Hx]; · iexact Hx
    iexact Hc
  iintro %b ⟨Hw, Hx, Hc⟩
  iapply (wp_last (send_step m K c j)) $$ [Hc Hs Ht1 Ht2 HO]
  · isplitl [Hc]; · iexact Hc
    isplitl [Hs]; · iexact Hs
    isplitl [Ht1]; · iexact Ht1
    isplitl [Ht2]; · iexact Ht2
    isplitr; · iexact He
    iexact HO
  iintro %d ⟨Hcr, -, HO⟩
  isplitl [Hcr]; · iexact Hcr
  isplitl [Hw Hi]
  · unfold Free
    isplitl [Hw]
    · iapply (wHas_any c s _); iexact Hw
    · iexact Hi
  isplitl [Hx]; · iexact Hx
  isplitr; · iexact He
  iexact HO

/-- What the loop over the steps keeps before step `n + 1`: block `n + 1` under way, the other slot free. -/
def loopR (n : ℕ) : sProp 𝕄 :=
  iprop(Free m c (slotOf n) ∗ Fly m c (slotOf (n + 1)) (Fin.ofNat 32 (n + 1)) ∗ xHas c (k0_pay2 (xIn m c)) ∗ env m K ∗ owesE c (tail (dueR c) n))

/-- What the send at distance `i + 1` takes. -/
def sendNeeds (i : Fin 31) : sProp 𝕄 :=
  iprop(chunkAny c i.succ ∗ slotAny (fwd c i) c ∗ dutyTok ER (sendC c i.succ) 0 0 ∗ dutyTok ER (recvC (fwd c i) c) 0 0)

theorem step_step (i : Fin 30) :
    iprop(sendNeeds c i.castSucc ∗ loopR m K c i.val)
      ⊢ WP c (step (placesOf c) (scaleOf m c) i) fun _ => iprop(cred (tallyAt (sendC c i.castSucc.succ) () N) ∗ loopR m K c (i.val + 1)) := by
  unfold loopR step sendNeeds
  have e1 : (Fin.ofNat 32 (i.val + 1) : Fin 32) = i.castSucc.succ := Fin.ext (Nat.mod_eq_of_lt (by omega))
  have e2 : (Fin.ofNat 32 (i.val + 1 + 1) : Fin 32) = ⟨i.val + 2, by omega⟩ := Fin.ext (Nat.mod_eq_of_lt (by omega))
  have e3 : slotOf (i.val + 2) = slotOf i.val := Fin.ext (by simp)
  have e4 : slotOf (i.val + 1 + 1) = slotOf i.val := e3
  rw [e1, e2, e4]
  iintro ⟨Hn, Hf, Hy, Hx, #He, HO⟩
  iapply (wp_use (wStart_step m c _ (slotOf i.val))) $$ Hf
  iintro %a Hf
  iapply (wp_last (finish_step m K c i.castSucc (slotOf (i.val + 1)))) $$ [Hn Hy Hx HO]
  · isplitr [Hn]
    · isplitl [Hy]; · iexact Hy
      isplitl [Hx]; · iexact Hx
      isplitr; · iexact He
      iexact HO
    · iexact Hn
  iintro %b ⟨Hcr, Hfr, Hx, -, HO⟩
  isplitl [Hcr]; · iexact Hcr
  isplitl [Hfr]; · iexact Hfr
  isplitl [Hf]; · iexact Hf
  isplitl [Hx]; · iexact Hx
  isplitr; · iexact He
  iexact HO

/-- The last step: afterwards nothing is under way. -/
theorem last_step :
    iprop(sendNeeds c 30 ∗ loopR m K c 30)
      ⊢ WP c (lastStep (placesOf c) (scaleOf m c)) fun _ =>
          iprop(cred (tallyAt (sendC c (Fin.succ 30)) () N) ∗ Free m c 0 ∗ Free m c 1 ∗ xHas c (k0_pay2 (xIn m c)) ∗ env m K ∗ owesE c 0) := by
  unfold loopR lastStep sendNeeds
  iintro ⟨Hn, Hf, Hy, Hx, #He, HO⟩
  iapply (wp_last (finish_step m K c 30 1)) $$ [Hn Hy Hx HO]
  · isplitr [Hn]
    · isplitl [Hy]; · iexact Hy
      isplitl [Hx]; · iexact Hx
      isplitr; · iexact He
      iexact HO
    · iexact Hn
  iintro %b ⟨Hcr, Hfr, Hx, -, HO⟩
  isplitl [Hcr]; · iexact Hcr
  isplitl [Hf]; · iexact Hf
  isplitl [Hfr]; · iexact Hfr
  isplitl [Hx]; · iexact Hx
  isplitr; · iexact He
  rw [show tail (dueR c) ((30 : Fin 31).val + 1) = 0 from tail_end _]
  iexact HO

/-! ## The scales, the cast of `x`, the device's own chunk, the copy out -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole buffer of device `c`. -/
abbrev wholeHas (b : Ref sig .tc) (X : b.ty.Contents (Elt F)) : sProp 𝕄 :=
  iprop((c : Thread nD τ).loc b ↦[Finset.univ]{fullShare} (X : Buf (Elt F) ((c : Thread nD τ).loc b)))

theorem scales_step :
    iprop(wholeHas c cc0_stg1_0 (sxIn m c) ∗ wholeHas c cc0_stg2_0 (swIn m c))
      ⊢ WP c scales fun v => iprop(⌜v = scaleOf m c⌝ ∗ wholeHas c cc0_stg1_0 (sxIn m c) ∗ wholeHas c cc0_stg2_0 (swIn m c)) := by
  unfold WP scales smemLoad
  rw [wp_bind]
  iintro ⟨H1, H2⟩
  iapply (wp_smemLoadElt 𝒱₀ (c : Thread nD τ) none Set.univ (m := win0_1.stage 0) (r := Rect.unit (s := S1) ![0] S1.size inb_S1_S1_0) (S := Finset.univ) (f := sxIn m c) (Finset.subset_univ _)) $$ H1
  iintro H1
  rw [wp_ret]; imodintro
  rw [wp_bind]
  iapply (wp_smemLoadElt 𝒱₀ (c : Thread nD τ) none Set.univ (m := win0_2.stage 0) (r := Rect.unit (s := S1) ![0] S1.size inb_S1_S1_0) (S := Finset.univ) (f := swIn m c) (Finset.subset_univ _)) $$ H2
  iintro H2
  rw [wp_ret]; imodintro
  rw [Prog.pure_eq_ret, wp_ret]; imodintro
  isplitr; · ipureintro; rfl
  isplitl [H1]; · iexact H1
  iexact H2

theorem castX_step (x₀ : FVec F S128x4096 .fp8e4m3) :
    iprop(wholeHas c cc0_stg0_0 (xIn m c) ∗ xHas c x₀)
      ⊢ WP c castX fun _ => iprop(wholeHas c cc0_stg0_0 (xIn m c) ∗ xHas c (k0_pay2 (xIn m c))) := by
  unfold castX
  iintro ⟨H1, Hx⟩
  unfold WP
  simp only [Prog.lift, Prog.bind_op, Prog.bind_ret]
  iapply (wp_load 𝒱₀ (c : Thread nD τ) none Set.univ (m := win0_0.stage 0) (S := Finset.univ) (f := xIn m c) (Finset.subset_univ _)) $$ H1
  iintro H1
  iapply (wp_use (loadX_step c x₀)) $$ Hx
  iintro %y ⟨-, Hx⟩
  unfold WP xHas
  iapply (wp_store 𝒱₀ (c : Thread nD τ) none Set.univ (m := Memref.whole cc0_scratch0) (r := Rect.unit (s := S128x4096) ![0, 0] S128x4096.size inb_S128x4096_S128x4096_0_0) (Mk := Finset.univ) (S := Finset.univ) (f := x₀) (Finset.subset_univ _)) $$ Hx
  iintro Hx
  rw [wp_ret]; imodintro
  isplitl [H1]; · iexact H1
  rw [show ((Memref.whole cc0_scratch0).access (Rect.unit (s := S128x4096) ![0, 0] S128x4096.size inb_S128x4096_S128x4096_0_0)).write (Elt F) x₀ (k0_pay2 ((win0_0.stage 0).view.readAt (Elt F) (Rect.unit (s := S128x4096) ![0, 0] S128x4096.size inb_S128x4096_S128x4096_0_0).toLoadRect (xIn m c))) Finset.univ
      = k0_pay2 ((win0_0.stage 0).view.readAt (Elt F) (Rect.unit (s := S128x4096) ![0, 0] S128x4096.size inb_S128x4096_S128x4096_0_0).toLoadRect (xIn m c)) from Memref.write_access_unit_zero_univ (Elt F) cc0_scratch0 hz2 _ _ _,
    show (win0_0.stage 0).view.readAt (Elt F) (Rect.unit (s := S128x4096) ![0, 0] S128x4096.size inb_S128x4096_S128x4096_0_0).toLoadRect (xIn m c) = xIn m c from
      Memref.readAt_unit_zero (Elt F) cc0_stg0_0 hz2 _ _]
  iexact Hx

theorem ownStep_step :
    iprop(Free m c 0 ∗ Free m c 1 ∗ xHas c (k0_pay2 (xIn m c)) ∗ slotAny c c ∗ env m K ∗ owesE c (tail (dueR c) 0))
      ⊢ WP c (ownStep (placesOf c) (scaleOf m c)) fun _ => iprop(slotHas c c (V m c c) ∗ loopR m K c 0) := by
  unfold ownStep
  iintro ⟨Hf0, Hf1, Hx, Hs, #He, HO⟩
  iapply (wp_use (wStart_step m c 0 0)) $$ Hf0
  iintro %a Hf0
  iapply (wp_use (wStart_step m c 1 1)) $$ Hf1
  iintro %a' Hf1
  iapply (wp_use (wWait_step m K c 0 0 0)) $$ [Hf0 HO]
  · isplitl [Hf0]; · iexact Hf0
    isplitr; · iexact He
    iexact HO
  iintro %a'' ⟨⟨Hw, Hi⟩, -, HO⟩
  iapply (wp_use (loadW_step c 0 (wCol m c (rot c 0)))) $$ Hw
  iintro %w ⟨%hw, Hw⟩
  iapply (wp_use (loadX_step c (k0_pay2 (xIn m c)))) $$ Hx
  iintro %y ⟨%hy, Hx⟩
  subst hy
  unfold WP slotAny
  simp only [Prog.lift, Prog.bind_op, Prog.bind_ret]
  icases Hs with ⟨%f, H⟩
  iapply (wp_load_rect 𝒱₀ (c : Thread nD τ) none Set.univ (m := Memref.whole cc0_scratch3)
    (r := Rect.unit (s := S32x128x256) ![c.val, 0, 0] S1x128x256.size (inbC c)) (S := (rAt c).view.set) (f := f)
    (View.set_reshape _ _).ge) $$ H
  iintro H
  iapply (wp_store 𝒱₀ (c : Thread nD τ) none Set.univ (m := Memref.whole cc0_scratch3)
    (r := Rect.unit (s := S32x128x256) ![c.val, 0, 0] S1x128x256.size (inbC c)) (S := (rAt c).view.set) (f := f) (Mk := Finset.univ)
    (View.set_reshape _ _).ge) $$ H
  iintro H
  rw [wp_ret]; imodintro
  isplitl [H]
  · unfold slotHas
    iexists _
    isplitr
    · ipureintro
      refine (congrArg (fun u => shapeCast S128x256 u shapeCasts_S1x128x256_S128x256)
        (View.read_write_univ (v := (Memref.whole cc0_scratch3).access (Rect.unit (s := S32x128x256) ![c.val, 0, 0] S1x128x256.size (inbC c))) f
          (k0_pay3 (scaleOf m c) w (k0_pay2 (xIn m c))))).trans ?_
      rw [pay3_eq, hw, shapeCast_shapeCast, rot_zero]; rfl
    · iexact H
  unfold loopR
  isplitl [Hw Hi]
  · unfold Free
    isplitl [Hw]
    · iapply (wHas_any c 0 _); iexact Hw
    · iexact Hi
  isplitl [Hf1]; · iexact Hf1
  isplitl [Hx]; · iexact Hx
  isplitr; · iexact He
  iexact HO

theorem copyOut_step (R : (cc0_scratch3 : Ref sig .tc).ty.Contents (Elt F)) (f : (cc0_stg3_0 : Ref sig .tc).ty.Contents (Elt F)) :
    iprop(wholeHas c cc0_scratch3 R ∗ wholeHas c cc0_stg3_0 f)
      ⊢ WP c copyOut fun _ => iprop(wholeHas c cc0_scratch3 R ∗ wholeHas c cc0_stg3_0 (k0_pay41 R)) := by
  unfold copyOut WP
  simp only [Prog.lift, Prog.bind_op, Prog.bind_ret]
  iintro ⟨H1, H2⟩
  iapply (wp_load 𝒱₀ (c : Thread nD τ) none Set.univ (m := Memref.whole cc0_scratch3) (S := Finset.univ) (f := R) (Finset.subset_univ _)) $$ H1
  iintro H1
  iapply (wp_load 𝒱₀ (c : Thread nD τ) none Set.univ (m := win0_3.stage 0) (S := Finset.univ) (f := f) (Finset.subset_univ _)) $$ H2
  iintro H2
  iapply (wp_store 𝒱₀ (c : Thread nD τ) none Set.univ (m := win0_3.stage 0) (r := Rect.unit (s := S4096x256) ![0, 0] S4096x256.size inb_S4096x256_S4096x256_0_0) (Mk := Finset.univ) (S := Finset.univ) (f := f) (Finset.subset_univ _)) $$ H2
  iintro H2
  rw [wp_ret]; imodintro
  isplitl [H1]; · iexact H1
  have e1 : (Memref.whole (κ := Kind.tc) cc0_scratch3).view.readAt (Elt F) (Rect.unit (s := S32x128x256) ![0, 0, 0] S32x128x256.size inb_S32x128x256_S32x128x256_0_0_0).toLoadRect R = R :=
    Memref.readAt_unit_zero (Elt F) cc0_scratch3 hz3 _ _
  have e2 : ∀ w, ((win0_3.stage 0).access (Rect.unit (s := S4096x256) ![0, 0] S4096x256.size inb_S4096x256_S4096x256_0_0)).write (Elt F) f w Finset.univ = w := fun w =>
    Memref.write_access_unit_zero_univ (Elt F) cc0_stg3_0 hz2 _ _ _
  rw [e1, e2]
  iexact H2

end Cert.KernelIdeal.Hand

end
-- ==== Proof.Regions.lean ====
/- The buffers cut into the pieces the run holds apart: the receive buffer by sender, the send buffer by step,
   the double buffer of `w` by slot; and put together again. -/
module

public import proofs.«01_k».proof.Proof.Local
public import Idealize.ShloMosaic.Lib.ValueIdx

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer in pieces -/

theorem some_intro (ℓ : Loc nD τ sig) (S : Finset (Idx ℓ)) (f : Buf (Elt F) ℓ) :
    (ℓ ↦[S]{fullShare} f : sProp 𝕄) ⊢ iprop(∃ f : Buf (Elt F) ℓ, ℓ ↦[S]{fullShare} f) := by
  iintro H; iexists f; iexact H

/-- A whole buffer, cut. -/
theorem cut_whole {n : ℕ} (ℓ : Loc nD τ sig) (S : Fin n → Finset (Idx ℓ)) (hd : ∀ s t, s ≠ t → Disjoint (S s) (S t)) (hu : ∀ i, ∃ s, i ∈ S s)
    (f : Buf (Elt F) ℓ) : (ℓ ↦[Finset.univ]{fullShare} f : sProp 𝕄) ⊢ bigSep Finset.univ fun s => iprop(∃ f : Buf (Elt F) ℓ, ℓ ↦[S s]{fullShare} f) := by
  have e : (Finset.univ : Finset (Idx ℓ)) = Finset.univ.biUnion S :=
    (Finset.eq_univ_iff_forall.mpr fun i => let ⟨s, hs⟩ := hu i; Finset.mem_biUnion.mpr ⟨s, Finset.mem_univ _, hs⟩).symm
  rw [e, pointsTo_biUnion Finset.univ S fun s _ t _ h => hd s t h]
  exact bigSep_mono fun s _ => some_intro ℓ (S s) f

/-- The pieces, each with what is known of it, put together. -/
theorem join_whole {n : ℕ} (ℓ : Loc nD τ sig) (S : Fin n → Finset (Idx ℓ)) (hd : ∀ s t, s ≠ t → Disjoint (S s) (S t)) (hu : ∀ i, ∃ s, i ∈ S s)
    (f₀ : Buf (Elt F) ℓ) (P : Fin n → Buf (Elt F) ℓ → Prop) :
    (bigSep Finset.univ fun s => iprop(∃ f : Buf (Elt F) ℓ, ⌜P s f⌝ ∗ ℓ ↦[S s]{fullShare} f))
      ⊢ (iprop(∃ g : Buf (Elt F) ℓ, ⌜∀ s, ∃ f, P s f ∧ ∀ i ∈ S s, g i = f i⌝ ∗ ℓ ↦[Finset.univ]{fullShare} g) : sProp 𝕄) := by
  have e : (Finset.univ : Finset (Idx ℓ)) = Finset.univ.biUnion S :=
    (Finset.eq_univ_iff_forall.mpr fun i => let ⟨s, hs⟩ := hu i; Finset.mem_biUnion.mpr ⟨s, Finset.mem_univ _, hs⟩).symm
  haveI : Nonempty (Buf (Elt F) ℓ) := ⟨f₀⟩
  iintro H
  ihave H' := (BI.bigSep_exists_pi Finset.univ (fun (s : Fin n) (f : Buf (Elt F) ℓ) => (iprop(⌜P s f⌝ ∗ ℓ ↦[S s]{fullShare} f) : sProp 𝕄))) $$ H
  icases H' with ⟨%fs, H⟩
  ihave H' := (bigSep_pure_sep Finset.univ (fun s => P s (fs s)) fun s => (iprop(ℓ ↦[S s]{fullShare} fs s) : sProp 𝕄)) $$ H
  icases H' with ⟨%hP, H⟩
  ihave H' := (pointsTo_biUnion_join Finset.univ S fs f₀ fun s _ t _ h => hd s t h) $$ H
  icases H' with ⟨%g, %hg, H⟩
  iexists g
  isplitr
  · ipureintro; exact fun s => ⟨fs s, hP s (Finset.mem_univ _), hg s (Finset.mem_univ _)⟩
  · rw [e]; iexact H

variable (m : (ℓ : Loc nD τ sig) → Buf (Elt F) ℓ) (c : Dev nD)

/-- The same of pieces of which nothing is known. -/
theorem join_any {n : ℕ} (ℓ : Loc nD τ sig) (S : Fin n → Finset (Idx ℓ)) (hd : ∀ s t, s ≠ t → Disjoint (S s) (S t)) (hu : ∀ i, ∃ s, i ∈ S s)
    (f₀ : Buf (Elt F) ℓ) :
    (bigSep Finset.univ fun s => iprop(∃ f : Buf (Elt F) ℓ, ℓ ↦[S s]{fullShare} f))
      ⊢ (iprop(∃ g : Buf (Elt F) ℓ, ℓ ↦[Finset.univ]{fullShare} g) : sProp 𝕄) := by
  refine BI.Entails.trans (bigSep_mono fun s _ => ?_) (BI.Entails.trans (join_whole ℓ S hd hu f₀ fun _ _ => True) ?_)
  · show iprop(∃ f : Buf (Elt F) ℓ, ℓ ↦[S s]{fullShare} f) ⊢ (iprop(∃ f : Buf (Elt F) ℓ, ⌜True⌝ ∗ ℓ ↦[S s]{fullShare} f) : sProp 𝕄)
    iintro ⟨%f, H⟩; iexists f
    isplitr
    · ipureintro; trivial
    · iexact H
  · show iprop(∃ g : Buf (Elt F) ℓ, ⌜∀ s, ∃ f : Buf (Elt F) ℓ, True ∧ ∀ i ∈ S s, g i = f i⌝ ∗ ℓ ↦[Finset.univ]{fullShare} g)
      ⊢ (iprop(∃ g : Buf (Elt F) ℓ, ℓ ↦[Finset.univ]{fullShare} g) : sProp 𝕄)
    iintro ⟨%g, -, H⟩; iexists g; iexact H

/-! ## The pieces' elements -/

theorem mem_rAt (s : Fin 32) (i : S32x128x256.Idx) : i ∈ (rAt s).view.set ↔ (i 0).val = s.val := by
  rw [show (rAt s).view.set = (Rect.unit (s := S32x128x256) ![s.val, 0, 0] S1x128x256.size (inbC s)).set from
    (View.set_reshape _ _).trans (View.set_slice_whole cc0_scratch3 _), Rect.mem_set_unit]
  constructor
  · intro h
    have := h 0
    simp at this
    omega
  · intro h a
    have h1 := (i 1).isLt
    have h2 := (i 2).isLt
    fin_cases a
    · show s.val ≤ (i 0).val ∧ (i 0).val < s.val + 1
      omega
    · exact ⟨Nat.zero_le _, by show (i 1).val < 0 + 128; simpa using h1⟩
    · exact ⟨Nat.zero_le _, by show (i 2).val < 0 + 256; simpa using h2⟩

theorem mem_chunk (s : Fin 32) (i : S32x128x256.Idx) : i ∈ (chunk s).view.set ↔ (i 0).val = s.val := by
  have h : (chunk s).view.set = (rAt s).view.set :=
    ((View.set_reshape _ _).trans (View.set_slice_whole cc0_scratch2 _)).trans ((View.set_reshape _ _).trans (View.set_slice_whole cc0_scratch3 _)).symm
  rw [h]; exact mem_rAt s i

theorem mem_wSlot (s : Fin 2) (i : S2x4096x256.Idx) : i ∈ (wSlot s).view.set ↔ (i 0).val = s.val := by
  rw [show (wSlot s).view.set = (Rect.unit (s := S2x4096x256) ![s.val, 0, 0] S1x4096x256.size (inbW s)).set from
    (View.set_reshape _ _).trans (View.set_slice_whole cc0_scratch1 _), Rect.mem_set_unit]
  constructor
  · intro h
    have := h 0
    simp at this
    omega
  · intro h a
    have h1 := (i 1).isLt
    have h2 := (i 2).isLt
    fin_cases a
    · show s.val ≤ (i 0).val ∧ (i 0).val < s.val + 1
      omega
    · exact ⟨Nat.zero_le _, by show (i 1).val < 0 + 4096; simpa using h1⟩
    · exact ⟨Nat.zero_le _, by show (i 2).val < 0 + 256; simpa using h2⟩

/-- Sets told apart by a coordinate are disjoint. -/
theorem disj_of_coord {n : ℕ} {I : Type} [DecidableEq I] {S : Fin n → Finset I} {p : I → ℕ} (h : ∀ s i, i ∈ S s ↔ p i = s.val) :
    ∀ s t, s ≠ t → Disjoint (S s) (S t) := fun s t hst =>
  Finset.disjoint_left.mpr fun i hi ht => hst (Fin.ext (((h s i).mp hi).symm.trans ((h t i).mp ht)))

theorem rAt_disj : ∀ s t, s ≠ t → Disjoint (rAt s).view.set (rAt t).view.set := disj_of_coord mem_rAt
theorem chunk_disj : ∀ s t, s ≠ t → Disjoint (chunk s).view.set (chunk t).view.set := disj_of_coord mem_chunk
theorem wSlot_disj : ∀ s t, s ≠ t → Disjoint (wSlot s).view.set (wSlot t).view.set := disj_of_coord mem_wSlot
theorem rAt_cover (i : S32x128x256.Idx) : ∃ s, i ∈ (rAt s).view.set := ⟨⟨(i 0).val, (i 0).isLt⟩, (mem_rAt _ i).mpr rfl⟩
theorem chunk_cover (i : S32x128x256.Idx) : ∃ s, i ∈ (chunk s).view.set := ⟨⟨(i 0).val, (i 0).isLt⟩, (mem_chunk _ i).mpr rfl⟩
theorem wSlot_cover (i : S2x4096x256.Idx) : ∃ s, i ∈ (wSlot s).view.set := ⟨⟨(i 0).val, (i 0).isLt⟩, (mem_wSlot _ i).mpr rfl⟩

/-! ## The receive buffer -/

/-- The receive buffer at the end: slot `s` holds what device `s` computed for `c`. -/
def landed : (cc0_scratch3 : Ref sig .tc).ty.Contents (Elt F) := fun i : S32x128x256.Idx =>
  V m ⟨(i 0).val, (i 0).isLt⟩ c (fun a => i a.succ)

theorem read_rAt (s : Fin 32) (f : (cc0_scratch3 : Ref sig .tc).ty.Contents (Elt F)) (x : S128x256.Idx) :
    (rAt s).view.read (Elt F) f x = f ((rAt s).view.emb x) := rfl

theorem emb_rAt (s : Fin 32) (x : S128x256.Idx) : (rAt s).view.emb x = (Fin.cons s x : S32x128x256.Idx) := by
  have h : Shape.reshapeEquiv (s := S1x128x256) (s' := S128x256) (by decide) x = (Fin.cons ⟨0, Nat.one_pos⟩ x : S1x128x256.Idx) := by
    apply Shape.reshapeEquiv_eq_of_rowMajor
    show (Shape.rowMajorPi (Matrix.vecCons 1 S128x256.size) (Fin.cons ⟨0, Nat.one_pos⟩ x)).val = (Shape.rowMajorPi S128x256.size x).val
    rw [Shape.rowMajorPi_succ_val]
    show 0 * _ + (Shape.rowMajorPi S128x256.size x).val = (Shape.rowMajorPi S128x256.size x).val
    simp
  have e : (rAt s).view.emb x = (Rect.unit (s := S32x128x256) ![s.val, 0, 0] S1x128x256.size (inbC s)).emb (Shape.reshapeEquiv (s := S1x128x256) (s' := S128x256) (by decide) x) := rfl
  rw [e, h]
  funext a
  apply Fin.ext
  fin_cases a
  · show s.val + 1 * 0 = s.val
    omega
  · show 0 + 1 * (x 0).val = (x 0).val
    omega
  · show 0 + 1 * (x 1).val = (x 1).val
    omega

theorem landed_at (s : Fin 32) (x : S128x256.Idx) : landed m c (Fin.cons s x : S32x128x256.Idx) = V m s c x := rfl

theorem rstage_cut (f : (cc0_scratch3 : Ref sig .tc).ty.Contents (Elt F)) :
    wholeHas c cc0_scratch3 f ⊢ iprop(slotAny c c ∗ bigSep Finset.univ fun i : Fin 31 => slotAny (F := F) c (fwd c i)) := by
  have h : wholeHas c cc0_scratch3 f ⊢ bigSep Finset.univ fun s : Fin 32 => slotAny (F := F) c s :=
    cut_whole ((c : Thread nD τ).loc cc0_scratch3) (fun s : Fin 32 => (rAt s).view.set) rAt_disj rAt_cover f
  exact h.trans (Entails.of_eq (bigSep_around c fun s : Fin 32 => slotAny (F := F) c s))

theorem rstage_join :
    iprop(slotHas c c (V m c c) ∗ bigSep Finset.univ fun i : Fin 31 => slotHas c (fwd c i) (V m (fwd c i) c)) ⊢ wholeHas c cc0_scratch3 (landed m c) := by
  refine (Entails.of_eq (bigSep_around c fun s : Fin 32 => slotHas c s (V m s c)).symm).trans ?_
  have h : (bigSep Finset.univ fun s : Fin 32 => slotHas c s (V m s c)) ⊢ (iprop(∃ g : Buf (Elt F) ((c : Thread nD τ).loc cc0_scratch3),
      ⌜∀ s : Fin 32, ∃ f : Buf (Elt F) ((c : Thread nD τ).loc cc0_scratch3), (rAt s).view.read (Elt F) f = V m s c ∧ ∀ i ∈ (rAt s).view.set, g i = f i⌝
      ∗ (c : Thread nD τ).loc cc0_scratch3 ↦[Finset.univ]{fullShare} g) : sProp 𝕄) :=
    join_whole ((c : Thread nD τ).loc cc0_scratch3) (fun s : Fin 32 => (rAt s).view.set) rAt_disj rAt_cover (landed m c)
      fun s f => (rAt s).view.read (Elt F) f = V m s c
  refine h.trans ?_
  iintro ⟨%g, %hg, H⟩
  have e : g = landed m c := by
    funext i
    obtain ⟨s, hs⟩ := rAt_cover i
    obtain ⟨f, hf, hgf⟩ := hg s
    rw [hgf i hs]
    obtain ⟨x, -, hx⟩ := Finset.mem_map.mp hs
    rw [← hx]
    refine (congrFun hf x).trans ?_
    rw [emb_rAt]; rfl
  subst e
  iexact H

/-! ## The send buffer and the double buffer -/

theorem send_cut (f : (cc0_scratch2 : Ref sig .tc).ty.Contents (Elt F)) :
    wholeHas c cc0_scratch2 f ⊢ iprop(chunkAny c 0 ∗ bigSep Finset.univ fun i : Fin 31 => chunkAny (F := F) c i.succ) := by
  have h : wholeHas c cc0_scratch2 f ⊢ bigSep Finset.univ fun s : Fin 32 => chunkAny (F := F) c s :=
    cut_whole ((c : Thread nD τ).loc cc0_scratch2) (fun s : Fin 32 => (chunk s).view.set) chunk_disj chunk_cover f
  exact h.trans (Entails.of_eq (bigSep_succ fun s : Fin 32 => chunkAny (F := F) c s))

theorem send_join (f₀ : (cc0_scratch2 : Ref sig .tc).ty.Contents (Elt F)) :
    iprop(chunkAny c 0 ∗ bigSep Finset.univ fun i : Fin 31 => chunkAny (F := F) c i.succ) ⊢ iprop(∃ f, wholeHas c cc0_scratch2 f) := by
  refine (Entails.of_eq (bigSep_succ fun s : Fin 32 => chunkAny (F := F) c s).symm).trans ?_
  exact join_any ((c : Thread nD τ).loc cc0_scratch2) (fun s : Fin 32 => (chunk s).view.set) chunk_disj chunk_cover f₀

theorem w_cut (f : (cc0_scratch1 : Ref sig .tc).ty.Contents (Elt F)) : wholeHas c cc0_scratch1 f ⊢ iprop(wAny (F := F) c 0 ∗ wAny (F := F) c 1) := by
  have h : wholeHas c cc0_scratch1 f ⊢ bigSep Finset.univ fun s : Fin 2 => wAny (F := F) c s :=
    cut_whole ((c : Thread nD τ).loc cc0_scratch1) (fun s : Fin 2 => (wSlot s).view.set) wSlot_disj wSlot_cover f
  exact h.trans (Entails.of_eq (bigSep_univ_eq_bigSepL [0, 1] (by decide) (by decide) fun s : Fin 2 => wAny (F := F) c s))

theorem w_join (f₀ : (cc0_scratch1 : Ref sig .tc).ty.Contents (Elt F)) :
    iprop(wAny (F := F) c 0 ∗ wAny (F := F) c 1) ⊢ iprop(∃ f, wholeHas c cc0_scratch1 f) := by
  refine (Entails.of_eq (bigSep_univ_eq_bigSepL [0, 1] (by decide) (by decide) fun s : Fin 2 => wAny (F := F) c s).symm).trans ?_
  exact join_any ((c : Thread nD τ).loc cc0_scratch1) (fun s : Fin 2 => (wSlot s).view.set) wSlot_disj wSlot_cover f₀

/-- The share of `w` each slot's transfers read at, together the whole of it. -/
theorem w_share : wholeHas c main_arg1 (wIn m c)
    ⊣⊢ iprop(((c : Thread nD τ).loc main_arg1 ↦[Finset.univ]{wShare 0} wIn m c) ∗ (c : Thread nD τ).loc main_arg1 ↦[Finset.univ]{wShare 1} wIn m c) := by
  rw [show wShare 0 = fullShare.left from if_pos rfl, show wShare 1 = fullShare.right from if_neg (by decide)]
  exact pointsTo_share (PosShare.mem_left_op_right _)

end Cert.KernelIdeal.Hand

end
-- ==== Proof.Body.lean ====
/- The body's run on a device, from what the launch gives it to what it gives back. -/
module

public import proofs.«01_k».proof.Proof.Regions

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The tokens of the duties device `c` pays: its signals, its sends, their landings. -/
def payToks : sProp 𝕄 :=
  iprop((bigSep Finset.univ fun i : Fin 31 => dutyTok ER (barC (fwd c i)) 0 i)
    ∗ (bigSep Finset.univ fun i : Fin 31 => dutyTok ER (sendC c i.succ) 0 0)
    ∗ bigSep Finset.univ fun i : Fin 31 => dutyTok ER (recvC (fwd c i) c) 0 0)

/-- Its positions at its own cells. -/
def positions : sProp 𝕄 :=
  iprop(atPos ER (barC c) 0 ∅ 0 ∗ (bigSep Finset.univ fun d : Fin 32 => atPos ER (sendC c d) 0 ∅ 0)
    ∗ bigSep Finset.univ fun s : Fin 32 => atPos ER (recvC c s) 0 ∅ 0)

/-- The semaphores of the double buffer at rest. -/
def wSems : sProp 𝕄 := bigSep Finset.univ fun s : Fin 2 => semVal ((c : Thread nD τ), .dma (wSem s).sem) 0

/-- What the launch hands device `c` alone. -/
def linear : sProp 𝕄 := iprop(positions (F := F) c ∗ payToks c ∗ wSems c)

/-- Its credit: its peers' signals and what they send. -/
def credits : sProp 𝕄 :=
  iprop(cred (tallyAt (barC c) () 31) ∗ bigSep Finset.univ fun i : Fin 31 => cred (tallyAt (recvC c (fwd c i)) () N))

/-- Its scratch buffers, at some contents. -/
def scratch : sProp 𝕄 :=
  iprop((∃ f, wholeHas (F := F) c cc0_scratch0 f) ∗ (∃ f, wholeHas (F := F) c cc0_scratch1 f) ∗ (∃ f, wholeHas (F := F) c cc0_scratch2 f)
    ∗ ∃ f, wholeHas (F := F) c cc0_scratch3 f)

theorem scratch_open : scratch (F := F) c ⊢ iprop((∃ f, wholeHas (F := F) c cc0_scratch0 f) ∗ (∃ f, wholeHas (F := F) c cc0_scratch1 f)
    ∗ (∃ f, wholeHas (F := F) c cc0_scratch2 f) ∗ ∃ f, wholeHas (F := F) c cc0_scratch3 f) := by
  unfold scratch; exact BI.Entails.refl _

/-- Its semaphores at zero again. -/
def sems : sProp 𝕄 :=
  iprop(semVal (barC c) 0 ∗ wSems (F := F) c ∗ (bigSep Finset.univ fun d : Fin 32 => semVal (sendC c d) 0)
    ∗ bigSep Finset.univ fun s : Fin 32 => semVal (recvC c s) 0)

/-- The result of device `c`. -/
def outAt : (cc0_stg3_0 : Ref sig .tc).ty.Contents (Elt F) := k0_pay41 (landed m c)

/-- The staging buffers of the inputs. -/
def inputs : sProp 𝕄 :=
  iprop(wholeHas c cc0_stg0_0 (xIn m c) ∗ wholeHas c cc0_stg1_0 (sxIn m c) ∗ wholeHas c cc0_stg2_0 (swIn m c))

theorem bigSep_two (Φ : Fin 2 → sProp 𝕄) : bigSep Finset.univ Φ = iprop(Φ 0 ∗ Φ 1) := by
  rw [bigSep_univ_eq_bigSepL [0, 1] (by decide) (by decide)]; rfl
theorem bigSep_last {n : ℕ} (Φ : Fin (n + 1) → sProp 𝕄) :
    bigSep Finset.univ Φ = iprop(Φ (Fin.last n) ∗ bigSep Finset.univ fun k : Fin n => Φ k.castSucc) := by
  rw [Fin.univ_castSuccEmb, Finset.cons_eq_insert, BI.bigSep_insert (by simp [Fin.ext_iff]; omega), BI.bigSep_map]; rfl

/-- The cells no transfer uses: the send cell of step 0 and the receive cell for the device itself. -/
theorem close_send : iprop(env m K ∗ atPos ER (sendC c 0) 0 ∅ 0) ⊢ |={Set.univ}=> (semVal (sendC c 0) 0 : sProp 𝕄) := by
  have hd : ∀ r, 0 ≤ r → (sched m).duties (sendC c 0) r = ∅ := fun r _ => by
    rcases Nat.eq_zero_or_pos r with rfl | hr
    · exact (duties_at m c (.inr (.inl 0))).trans (by simp only [dutiesOf]; exact if_pos trivial)
    · exact duties_later m _ r hr
  iintro ⟨#He, H⟩
  iapply (Rounds.cell_close ER (sched m) (Set.mem_univ (K (c, .inr (.inl 0)))) (fun h => h) (R := 0) hd)
  isplitr; · iapply (inv_at m K c (.inr (.inl 0))); iexact He
  iexact H
theorem close_recv : iprop(env m K ∗ atPos ER (recvC c c) 0 ∅ 0) ⊢ |={Set.univ}=> (semVal (recvC c c) 0 : sProp 𝕄) := by
  have hd : ∀ r, 0 ≤ r → (sched m).duties (recvC c c) r = ∅ := fun r _ => by
    rcases Nat.eq_zero_or_pos r with rfl | hr
    · exact (duties_at m c (.inr (.inr c))).trans (if_pos rfl)
    · exact duties_later m _ r hr
  iintro ⟨#He, H⟩
  iapply (Rounds.cell_close ER (sched m) (Set.mem_univ (K (c, .inr (.inr c)))) (fun h => h) (R := 0) hd)
  isplitr; · iapply (inv_at m K c (.inr (.inr c))); iexact He
  iexact H

/-- The part of the body up to the loop. -/
def bodyHead (P : Places) (v5 : F .f32) : TcProg F PUnit := do
  seqN 31 (signalTo P)
  semWaitWord barSem.sem 31#32
  castX
  ownStep P v5

/-- From the loop on. -/
def bodyTail (P : Places) (v5 : F .f32) : TcProg F PUnit := do
  seqN 30 (step P v5)
  lastStep P v5
  seqN 31 (waitRecv P)
  copyOut
  seqN 31 (waitSend P)

theorem bodyAt_eq (P : Places) : bodyAt (F := F) P = scales >>= fun v5 => bodyHead P v5 >>= fun _ => bodyTail P v5 := by
  unfold bodyAt bodyHead bodyTail
  simp only [bind_assoc]

theorem head_run (x₀ : (cc0_scratch0 : Ref sig .tc).ty.Contents (Elt F)) (f₁ : (cc0_scratch1 : Ref sig .tc).ty.Contents (Elt F))
    (f₃ : (cc0_scratch3 : Ref sig .tc).ty.Contents (Elt F)) :
    iprop(env m K ∗ owesE c (O₀ c) ∗ atPos ER (barC c) 0 ∅ 0 ∗ cred (tallyAt (barC c) () 31)
        ∗ (bigSep Finset.univ fun i : Fin 31 => dutyTok ER (barC (fwd c i)) 0 i)
        ∗ wholeHas c cc0_stg0_0 (xIn m c) ∗ wholeHas c cc0_scratch0 x₀ ∗ wholeHas c cc0_scratch1 f₁ ∗ wholeHas c cc0_scratch3 f₃
        ∗ wSems c ∗ wholeHas c main_arg1 (wIn m c))
      ⊢ WP c (bodyHead (placesOf c) (scaleOf m c)) fun _ =>
          iprop(slotHas c c (V m c c) ∗ loopR m K c 0 ∗ semVal (barC c) 0 ∗ wholeHas c cc0_stg0_0 (xIn m c)
            ∗ bigSep Finset.univ fun i : Fin 31 => slotAny (F := F) (fwd c i) c) := by
  unfold bodyHead wSems
  iintro ⟨#He, HO, Hat, Hcr, Htok, Hin, Hx, Hw, Hr, Hws, Hw1⟩
  ihave Hr' := (rstage_cut c f₃) $$ Hr
  icases Hr' with ⟨Hown, Hslots⟩
  iapply (wp_use (wp_seqN (c := c) (f := signalTo (placesOf c))
      (A := fun i => iprop(dutyTok ER (barC (fwd c i)) 0 i ∗ slotAny c (fwd c i))) (B := fun _ => iprop(emp))
      (R := fun n => iprop(env m K ∗ owesE c (tail (dueR c) 0 + tail (dueB c) n))) (signal_step m K c))) $$ [HO Htok Hslots]
  · isplitl [Htok Hslots]
    · rw [bigSep_sep']
      isplitl [Htok]; · iexact Htok
      iexact Hslots
    · isplitr; · iexact He
      iexact HO
  iintro %a ⟨-, -, HO⟩
  rw [tail_end, add_zero]
  iapply (wp_use (barrier_wait m K c)) $$ [HO Hat Hcr]
  · isplitl [Hcr]; · iexact Hcr
    isplitl [Hat]; · iexact Hat
    isplitr; · iexact He
    iexact HO
  iintro %a1 ⟨Hpeers, Hz, -, HO⟩
  iapply (wp_use (castX_step m c x₀)) $$ [Hin Hx]
  · isplitl [Hin]; · iexact Hin
    unfold xHas; iexact Hx
  iintro %a2 ⟨Hin, Hx⟩
  ihave Hw' := (w_cut c f₁) $$ Hw
  icases Hw' with ⟨Hs0, Hs1⟩
  ihave Hws' := (Entails.of_eq (bigSep_two fun s : Fin 2 => (semVal ((c : Thread nD τ), .dma (wSem s).sem) 0 : sProp 𝕄))) $$ Hws
  icases Hws' with ⟨Hv0, Hv1⟩
  ihave Hw1' := ((w_share m c).1) $$ Hw1
  icases Hw1' with ⟨Hm0, Hm1⟩
  iapply (wp_last (ownStep_step m K c)) $$ [Hs0 Hs1 Hv0 Hv1 Hm0 Hm1 Hx Hown HO]
  · unfold Free wIdle
    isplitl [Hs0 Hv0 Hm0]
    · isplitl [Hs0]; · iexact Hs0
      isplitl [Hv0]; · iexact Hv0
      iexact Hm0
    isplitl [Hs1 Hv1 Hm1]
    · isplitl [Hs1]; · iexact Hs1
      isplitl [Hv1]; · iexact Hv1
      iexact Hm1
    isplitl [Hx]; · iexact Hx
    isplitl [Hown]; · iexact Hown
    isplitr; · iexact He
    iexact HO
  iintro %a3 ⟨Hown, HR⟩
  isplitl [Hown]; · iexact Hown
  isplitl [HR]; · iexact HR
  isplitl [Hz]; · iexact Hz
  isplitl [Hin]; · iexact Hin
  iexact Hpeers

theorem tail_run (f₂ : (cc0_scratch2 : Ref sig .tc).ty.Contents (Elt F)) (f₃ : (cc0_stg3_0 : Ref sig .tc).ty.Contents (Elt F)) :
    iprop(env m K ∗ slotHas c c (V m c c) ∗ loopR m K c 0 ∗ (bigSep Finset.univ fun i : Fin 31 => slotAny (F := F) (fwd c i) c)
        ∗ wholeHas c cc0_scratch2 f₂ ∗ wholeHas c cc0_stg3_0 f₃
        ∗ (bigSep Finset.univ fun i : Fin 31 => dutyTok ER (sendC c i.succ) 0 0)
        ∗ (bigSep Finset.univ fun i : Fin 31 => dutyTok ER (recvC (fwd c i) c) 0 0)
        ∗ (bigSep Finset.univ fun i : Fin 31 => cred (tallyAt (recvC c (fwd c i)) () N))
        ∗ (bigSep Finset.univ fun d : Fin 32 => atPos ER (sendC c d) 0 ∅ 0)
        ∗ bigSep Finset.univ fun s : Fin 32 => atPos ER (recvC c s) 0 ∅ 0)
      ⊢ WP c (bodyTail (placesOf c) (scaleOf m c)) fun _ =>
          iprop(owesE c 0 ∗ scratch (F := F) c ∗ wholeHas c main_arg1 (wIn m c) ∗ wSems c ∗ wholeHas c cc0_stg3_0 (outAt m c)
            ∗ (bigSep Finset.univ fun d : Fin 32 => semVal (sendC c d) 0) ∗ bigSep Finset.univ fun s : Fin 32 => semVal (recvC c s) 0) := by
  unfold bodyTail
  iintro ⟨#He, Hown, HR, Hpeers, Hbuf, Hout, HtS, HtR, Hcr, HaS, HaR⟩
  ihave HaS' := (Entails.of_eq (bigSep_succ fun d : Fin 32 => (atPos ER (sendC c d) 0 ∅ 0 : sProp 𝕄))) $$ HaS
  icases HaS' with ⟨HaS0, HaS⟩
  ihave HaR' := (Entails.of_eq (bigSep_around c fun s : Fin 32 => (atPos ER (recvC c s) 0 ∅ 0 : sProp 𝕄))) $$ HaR
  icases HaR' with ⟨HaRc, HaR⟩
  imod (close_send m K c) $$ [HaS0] with Hz0
  · isplitr; · iexact He
    iexact HaS0
  imod (close_recv m K c) $$ [HaRc] with Hzc
  · isplitr; · iexact He
    iexact HaRc
  ihave Hbuf' := (send_cut c f₂) $$ Hbuf
  icases Hbuf' with ⟨Hch0, Hch⟩
  ihave Hneeds := (show iprop((bigSep Finset.univ fun i : Fin 31 => chunkAny (F := F) c i.succ) ∗ (bigSep Finset.univ fun i : Fin 31 => slotAny (F := F) (fwd c i) c)
      ∗ (bigSep Finset.univ fun i : Fin 31 => dutyTok ER (sendC c i.succ) 0 0) ∗ (bigSep Finset.univ fun i : Fin 31 => dutyTok ER (recvC (fwd c i) c) 0 0))
      ⊢ iprop(sendNeeds (F := F) c (Fin.last 30) ∗ bigSep Finset.univ fun i : Fin 30 => sendNeeds (F := F) c i.castSucc) from by
        rw [← bigSep_last]; unfold sendNeeds; simp only [bigSep_sep']; exact BI.Entails.refl _) $$ [Hch Hpeers HtS HtR]
  · isplitl [Hch]; · iexact Hch
    isplitl [Hpeers]; · iexact Hpeers
    isplitl [HtS]; · iexact HtS
    iexact HtR
  icases Hneeds with ⟨HnL, Hn⟩
  iapply (wp_use (wp_seqN (c := c) (f := step (placesOf c) (scaleOf m c)) (A := fun i => sendNeeds c i.castSucc)
      (B := fun i => cred (tallyAt (sendC c i.castSucc.succ) () N)) (R := loopR m K c) (step_step m K c))) $$ [Hn HR]
  · isplitl [Hn]; · iexact Hn
    iexact HR
  iintro %a ⟨HcS, HR⟩
  iapply (wp_use (last_step m K c)) $$ [HnL HR]
  · isplitl [HnL]; · iexact HnL
    iexact HR
  iintro %a1 ⟨HcL, Hf0, Hf1, Hx, -, HO⟩
  iapply (wp_use (wp_seqN (c := c) (f := waitRecv (placesOf c))
      (A := fun i => iprop(cred (tallyAt (recvC c (fwd c i)) () N) ∗ atPos ER (recvC c (fwd c i)) 0 ∅ 0))
      (B := fun i => iprop(slotHas c (fwd c i) (V m (fwd c i) c) ∗ semVal (recvC c (fwd c i)) 0))
      (R := fun _ => iprop(env m K ∗ owesE c 0)) (waitRecv_step m K c))) $$ [Hcr HaR HO]
  · isplitl [Hcr HaR]
    · rw [bigSep_sep']
      isplitl [Hcr]; · iexact Hcr
      iexact HaR
    · isplitr; · iexact He
      iexact HO
  iintro %a2 ⟨HB, -, HO⟩
  ihave HB' := (Entails.of_eq (bigSep_sep' Finset.univ (fun i : Fin 31 => slotHas c (fwd c i) (V m (fwd c i) c)) fun i : Fin 31 => (semVal (recvC c (fwd c i)) 0 : sProp 𝕄))) $$ HB
  icases HB' with ⟨Hgot, HzR⟩
  ihave Hr := (rstage_join m c) $$ [Hown Hgot]
  · isplitl [Hown]; · iexact Hown
    iexact Hgot
  iapply (wp_use (copyOut_step c (landed m c) f₃)) $$ [Hr Hout]
  · isplitl [Hr]; · iexact Hr
    iexact Hout
  iintro %a3 ⟨Hr, Hout⟩
  iapply (wp_last (wp_seqN (c := c) (f := waitSend (placesOf c))
      (A := fun i => iprop(cred (tallyAt (sendC c i.succ) () N) ∗ atPos ER (sendC c i.succ) 0 ∅ 0))
      (B := fun i => iprop(chunkAny c i.succ ∗ semVal (sendC c i.succ) 0))
      (R := fun _ => iprop(env m K ∗ owesE c 0)) (waitSend_step m K c))) $$ [HcS HcL HaS HO]
  · isplitl [HcS HcL HaS]
    · rw [bigSep_sep']
      isplitl [HcS HcL]
      · rw [bigSep_last fun i : Fin 31 => (cred (tallyAt (sendC c i.succ) () N) : sProp 𝕄)]
        isplitl [HcL]; · iexact HcL
        iexact HcS
      · iexact HaS
    · isplitr; · iexact He
      iexact HO
  iintro %a4 ⟨HB, -, HO⟩
  ihave HB' := (Entails.of_eq (bigSep_sep' Finset.univ (fun i : Fin 31 => chunkAny (F := F) c i.succ) fun i : Fin 31 => (semVal (sendC c i.succ) 0 : sProp 𝕄))) $$ HB
  icases HB' with ⟨Hch, HzS⟩
  unfold Free wIdle
  icases Hf0 with ⟨Hs0, Hv0, Hm0⟩
  icases Hf1 with ⟨Hs1, Hv1, Hm1⟩
  isplitl [HO]; · iexact HO
  isplitl [Hx Hs0 Hs1 Hch0 Hch Hr]
  · unfold scratch
    isplitl [Hx]
    · unfold xHas; iexists _; iexact Hx
    isplitl [Hs0 Hs1]
    · iapply (w_join c fun _ => Classical.choice inferInstance)
      isplitl [Hs0]; · iexact Hs0
      iexact Hs1
    isplitl [Hch0 Hch]
    · iapply (send_join c f₂)
      isplitl [Hch0]; · iexact Hch0
      iexact Hch
    · iexists _; iexact Hr
  isplitl [Hm0 Hm1]
  · iapply (w_share m c).2
    isplitl [Hm0]; · iexact Hm0
    iexact Hm1
  isplitl [Hv0 Hv1]
  · unfold wSems
    rw [bigSep_two]
    isplitl [Hv0]; · iexact Hv0
    iexact Hv1
  isplitl [Hout]; · unfold outAt; iexact Hout
  isplitl [Hz0 HzS]
  · rw [bigSep_succ fun d : Fin 32 => (semVal (sendC c d) 0 : sProp 𝕄)]
    isplitl [Hz0]; · iexact Hz0
    iexact HzS
  · rw [bigSep_around c fun s : Fin 32 => (semVal (recvC c s) 0 : sProp 𝕄)]
    isplitl [Hzc]; · iexact Hzc
    iexact HzR

theorem body_device (Q : PUnit → sProp 𝕄) : WP c (bodyAt (placesOf c)) Q ⊢ WP c body Q := by
  rw [← printed_eq]
  unfold WP body
  simp only [Prog.lift, Prog.bind_op, Prog.bind_ret]
  rw [wp_deviceId]

/-- The whole body. -/
theorem body_run (f₃ : (cc0_stg3_0 : Ref sig .tc).ty.Contents (Elt F)) :
    iprop(env m K ∗ linear c ∗ credits c ∗ scratch c ∗ wholeHas c main_arg1 (wIn m c) ∗ owesE c (O₀ c) ∗ inputs m c ∗ wholeHas c cc0_stg3_0 f₃)
      ⊢ WP c body fun _ =>
          iprop(owesE c 0 ∗ sems c ∗ scratch c ∗ wholeHas c main_arg1 (wIn m c) ∗ inputs m c ∗ wholeHas c cc0_stg3_0 (outAt m c)) := by
  unfold linear positions payToks credits inputs
  iintro ⟨#He, ⟨⟨HaB, HaS, HaR⟩, ⟨HtB, HtS, HtR⟩, Hws⟩, ⟨HcB, HcR⟩, Hs, Hw1, HO, ⟨Hin, Hsx, Hsw⟩, Hout⟩
  ihave Hs' := (scratch_open (F := F) c) $$ Hs
  icases Hs' with ⟨⟨%x₀, Hx⟩, ⟨%f₁, Hw⟩, ⟨%f₂, Hb⟩, ⟨%fr, Hr⟩⟩
  iapply (body_device c _)
  rw [bodyAt_eq]
  iapply (wp_use (scales_step m c)) $$ [Hsx Hsw]
  · isplitl [Hsx]; · iexact Hsx
    iexact Hsw
  iintro %v5 ⟨%hv, Hsx, Hsw⟩
  subst hv
  iapply (wp_use (head_run m K c x₀ f₁ fr)) $$ [HO HaB HcB HtB Hin Hx Hw Hr Hws Hw1]
  · isplitr; · iexact He
    isplitl [HO]; · iexact HO
    isplitl [HaB]; · iexact HaB
    isplitl [HcB]; · iexact HcB
    isplitl [HtB]; · iexact HtB
    isplitl [Hin]; · iexact Hin
    isplitl [Hx]; · iexact Hx
    isplitl [Hw]; · iexact Hw
    isplitl [Hr]; · iexact Hr
    isplitl [Hws]; · iexact Hws
    iexact Hw1
  iintro %a ⟨Hown, HR, HzB, Hin, Hpeers⟩
  iapply (wp_last (tail_run m K c f₂ f₃)) $$ [Hown HR Hpeers Hb Hout HtS HtR HcR HaS HaR]
  · isplitr; · iexact He
    isplitl [Hown]; · iexact Hown
    isplitl [HR]; · iexact HR
    isplitl [Hpeers]; · iexact Hpeers
    isplitl [Hb]; · iexact Hb
    isplitl [Hout]; · iexact Hout
    isplitl [HtS]; · iexact HtS
    isplitl [HtR]; · iexact HtR
    isplitl [HcR]; · iexact HcR
    isplitl [HaS]; · iexact HaS
    iexact HaR
  iintro %a1 ⟨HO, Hscr, Hw1, Hws, Hout, HzS, HzR⟩
  isplitl [HO]; · iexact HO
  isplitl [HzB Hws HzS HzR]
  · unfold sems
    isplitl [HzB]; · iexact HzB
    isplitl [Hws]; · iexact Hws
    isplitl [HzS]; · iexact HzS
    iexact HzR
  isplitl [Hscr]; · iexact Hscr
  isplitl [Hw1]; · iexact Hw1
  isplitl [Hin Hsx Hsw]
  · isplitl [Hin]; · iexact Hin
    isplitl [Hsx]; · iexact Hsx
    iexact Hsw
  iexact Hout

end Cert.KernelIdeal.Hand

end
-- ==== Proof.Points.lean ====
/- The body as the launch asks for it: the proof data of the one grid point and the body's obligation. -/
module

public import proofs.«01_k».proof.Proof.Body

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from: the records at some names, its own positions and tokens, its credit, the levels
    and its copy of `w`. -/
def start (c : Dev nD) : sProp 𝕄 :=
  iprop((∃ K, records m K ∗ linear c) ∗ credits c ∗ levs ∗ wholeHas c main_arg1 (wIn m c))
def Φ₀ (c : Dev nD) : sProp 𝕄 := iprop(start m c ∗ scratch c)
/-- After the point: the cells closed, the scratch buffers at some contents, the copy of `w` as it was. -/
def Φ₁ (c : Dev nD) : sProp 𝕄 := iprop(sems c ∗ scratch c ∗ wholeHas c main_arg1 (wIn m c))

/-- What the launch is told of device `c`: the staged inputs stay, the result's buffer ends at `outAt`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => sxIn m c
    | ⟨2, _⟩ => swIn m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_in (w : Fin 4) (hw : w.val < 3) (t : Fin cfg0.N) : (cfg0.win w).fetch t = true := by
  rw [fin_N0 t]; fin_cases w <;> first | rfl | exact absurd hw (by decide)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem stg_open (c : Dev nD) (b : Ref sig .tc) (X : b.ty.Contents (Elt F)) : stg c b X ⊢ wholeHas c b X := by
  iintro ⟨%f, %h, H⟩
  subst h; iexact H
theorem stg_close (c : Dev nD) (b : Ref sig .tc) (X : b.ty.Contents (Elt F)) : wholeHas c b X ⊢ stg c b X := by
  iintro H
  iexists _; isplitr; · (ipureintro; rfl)
  iexact H

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xIn m c) ∗ stg c cc0_stg1_0 (sxIn m c)
    ∗ stg c cc0_stg2_0 (swIn m c) ∗ stg c cc0_stg3_0 (outAt m c))

theorem before_0 (c : Dev nD) (d) : (dats m 0 c).before (0 : Fin 4) t0_0 d = xIn m c := by
  unfold Dat.before; rw [if_pos (fetch_in 0 (by decide) t0_0)]; rfl
theorem before_1 (c : Dev nD) (d) : (dats m 0 c).before (1 : Fin 4) t0_0 d = sxIn m c := by
  unfold Dat.before; rw [if_pos (fetch_in 1 (by decide) t0_0)]; rfl
theorem before_2 (c : Dev nD) (d) : (dats m 0 c).before (2 : Fin 4) t0_0 d = swIn m c := by
  unfold Dat.before; rw [if_pos (fetch_in 2 (by decide) t0_0)]; rfl

theorem owes_open (c : Dev nD) : (dats m 0 c).owesAt () t0_0.castSucc ⊢ owesE c (O₀ c) := by
  unfold Dat.owesAt Pipeline.owesWithin owesE
  iintro ⟨%W, -, H⟩
  iexists W; iexact H
theorem owes_close (c : Dev nD) : owesE c 0 ⊢ (dats m 0 c).owesAt () t0_0.succ := by
  unfold Dat.owesAt Pipeline.owesWithin owesE
  iintro ⟨%W, H⟩
  iexists W
  isplitr; · ipureintro; exact fun _ _ => Or.inl trivial
  iexact H

theorem body_point (c : Dev nD) : bodyPre m c ⊢ WP c body fun _ => bodyPost m c := by
  unfold bodyPre bodyPost Φ₀ Φ₁ start
  simp only [before_0, before_1, before_2]
  iintro ⟨⟨⟨⟨%K, #Hrec, Hlin⟩, Hcr, #Hlev, Hw⟩, Hs⟩, HO, ⟨%d0, H0⟩, ⟨%d1, H1⟩, ⟨%d2, H2⟩, ⟨%d3, %f3, -, H3⟩⟩
  ihave H0 := (stg_open c cc0_stg0_0 (xIn m c)) $$ H0
  ihave H1 := (stg_open c cc0_stg1_0 (sxIn m c)) $$ H1
  ihave H2 := (stg_open c cc0_stg2_0 (swIn m c)) $$ H2
  ihave HO := (owes_open m c) $$ HO
  iapply (wp_last (body_run m K c f3)) $$ [Hlin Hcr Hw Hs HO H0 H1 H2 H3]
  · isplitr
    · unfold env; isplitr; · iexact Hrec
      iexact Hlev
    isplitl [Hlin]; · iexact Hlin
    isplitl [Hcr]; · iexact Hcr
    isplitl [Hs]; · iexact Hs
    isplitl [Hw]; · iexact Hw
    isplitl [HO]; · iexact HO
    isplitl [H0 H1 H2]
    · unfold inputs
      isplitl [H0]; · iexact H0
      isplitl [H1]; · iexact H1
      iexact H2
    iexact H3
  iintro %a ⟨HO, Hse, Hs, Hw, Hin, Hout⟩
  unfold inputs
  icases Hin with ⟨H0, H1, H2⟩
  isplitl [Hse Hs Hw]
  · isplitl [Hse]; · iexact Hse
    isplitl [Hs]; · iexact Hs
    iexact Hw
  isplitl [HO]; · iapply (owes_close m c); iexact HO
  isplitl [H0]; · iapply (stg_close c cc0_stg0_0); iexact H0
  isplitl [H1]; · iapply (stg_close c cc0_stg1_0); iexact H1
  isplitl [H2]; · iapply (stg_close c cc0_stg2_0); iexact H2
  iapply (stg_close c cc0_stg3_0); iexact Hout

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

/-- The body's label at the one grid point runs the body. -/
theorem label_eq : defs₀ (F := F) Proc.tc 0 (t0_0, cfg0.slots t0_0) = body := by
  refine Eq.trans ?_ cc0_body_eq
  rfl

set_option maxRecDepth 100000 in
/-- The library's obligation of the body on device `c`. -/
theorem body_obligation (c : Dev nD) : BodyObligation (dats (F := F) m 0 c) (defs₀ (F := F)) 𝒱₀ () Set.univ := fun t => by
  rw [fin_N0 t]
  rw [bigSep_W, bigSep_W]
  simp only [owns_whole]
  rw [label_eq]
  exact body_point m c

end Cert.KernelIdeal.Hand

end
-- ==== Proof.Alloc.lean ====
/- The launch: what is minted, the cells allocated on every device at once, the tokens dealt to the devices that pay
   with them. -/
module

public import proofs.«01_k».proof.Proof.Points

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The double buffer's, the steps' send semaphores, the senders' receive semaphores. -/
abbrev OS : Type := Fin 2 ⊕ (Fin 32 ⊕ Fin 32)
abbrev osem : OS → SemLoc sig
  | .inl s => .dma (wSem s).sem
  | .inr k => csem (.inr k)

theorem ownSemFacts : Pipeline.OwnSemFacts cfg0.spec osem where
  isScoped := by decide +kernel
  inj := by decide +kernel
  disj := by decide +kernel

theorem share_eq (c : Dev nD) (w : Fin cfg0.W) : (dats m 0 c).share w = fullShare := by unfold Dat.share; split <;> rfl

/-! ## What is minted -/

abbrev TK : Type := Fin 31 ⊕ (Fin 31 ⊕ Fin 31)
/-- The cell of a token of device `c`, and its duty. -/
abbrev tokCell (c : Dev nD) : TK → CK
  | .inl _ => .inl ()
  | .inr (.inl i) => .inr (.inl i.succ)
  | .inr (.inr i) => .inr (.inr (back c i))
abbrev tokDuty : TK → Fin 31
  | .inl i => i
  | .inr _ => 0
abbrev tokOf (x : Dev nD × TK) : GSem nD τ sig × ℕ × Fin 31 := (kcell (x.1, tokCell x.1 x.2), 0, tokDuty x.2)

theorem back_injective (c : Dev nD) : Function.Injective (back c) := fun i j h =>
  Fin.rev_injective (Fin.succ_injective _ (rot_injective c h))

theorem tokOf_injective : Function.Injective (tokOf : Dev nD × TK → GSem nD τ sig × ℕ × Fin 31) := by
  rintro ⟨c, j⟩ ⟨c', j'⟩ h
  have h1 := kcell_injective (congrArg Prod.fst h)
  have hc : c = c' := congrArg Prod.fst h1
  subst hc
  have hk : tokCell c j = tokCell c j' := congrArg Prod.snd h1
  have hd : tokDuty j = tokDuty j' := congrArg (fun x : GSem nD τ sig × ℕ × Fin 31 => x.2.2) h
  rcases j with i | i | i <;> rcases j' with i' | i' | i'
  · rw [show i = i' from hd]
  · exact absurd hk (fun h => by cases h)
  · exact absurd hk (fun h => by cases h)
  · exact absurd hk (fun h => by cases h)
  · rw [show i = i' from Fin.succ_injective _ (Sum.inl.inj (Sum.inr.inj hk))]
  · exact absurd (Sum.inr.inj hk) (fun h => by cases h)
  · exact absurd hk (fun h => by cases h)
  · exact absurd (Sum.inr.inj hk) (fun h => by cases h)
  · rw [show i = i' from back_injective c (Sum.inr.inj (Sum.inr.inj hk))]

def allCells : Finset (GSem nD τ sig) := Finset.univ.map ⟨kcell, kcell_injective⟩
def allToks : Finset (GSem nD τ sig × ℕ × Fin 31) := Finset.univ.map ⟨tokOf, tokOf_injective⟩

def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop((bigSep Finset.univ fun i : Fin 31 => dutyTok ER (barC c) 0 i)
    ∗ (bigSep Finset.univ fun i : Fin 31 => dutyTok ER (sendC c i.succ) 0 0)
    ∗ bigSep Finset.univ fun i : Fin 31 => dutyTok ER (recvC c (back c i)) 0 0)

/-- What is dealt to device `c` before the launch's global step, -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
/-- and after it. -/
def G' (c : Dev nD) : sProp 𝕄 := iprop(∃ K, records m K ∗ linear c)

theorem toks_sum (Φ : GSem nD τ sig × ℕ × Fin 31 → sProp 𝕄) :
    bigSep allToks Φ = bigSep Finset.univ fun c : Dev nD => bigSep Finset.univ fun j : TK => Φ (tokOf (c, j)) := by
  unfold allToks; rw [bigSep_map, bigSep_univ_prod]; rfl

theorem cells_sum (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

theorem fund_cells : BI.own (ER (initOf allCells allToks)) ⊢ (|==> bigSep Finset.univ (G m) : sProp 𝕄) := by
  have hT : bigSep allToks (fun x => (dutyTok ER x.1 x.2.1 x.2.2 : sProp 𝕄)) = bigSep Finset.univ fun c : Dev nD => toks c := by
    rw [toks_sum]
    refine bigSep_congr fun c _ => ?_
    unfold toks
    rw [bigSep_univ_sum, bigSep_univ_sum]
    rfl
  iintro HX
  imod (Rounds.fund ER (sched m) allCells allToks) $$ HX with ⟨Hst, Hr, Hat, Htok⟩
  imodintro
  ihave Hst' := (Entails.of_eq (cells_sum fun g => roundState ER (sched m) g 0)) $$ Hst
  ihave Hat' := (Entails.of_eq (cells_sum fun g => atPos ER g 0 ∅ 0)) $$ Hat
  ihave Hr' := (Entails.of_eq (cells_sum fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- A family over a device's cells, one kind after the other. -/
theorem bigSep_CK (Φ : CK → sProp 𝕄) : bigSep Finset.univ Φ
    = iprop(Φ (.inl ()) ∗ (bigSep Finset.univ fun d : Fin 32 => Φ (.inr (.inl d))) ∗ bigSep Finset.univ fun s : Fin 32 => Φ (.inr (.inr s))) := by
  rw [bigSep_univ_sum, bigSep_univ_sum, Finset.univ_unique, bigSep_singleton]; rfl

theorem ownSems0_eq (c : Dev nD) : (Pipeline.ownSems0 (Ix := Unit) (Name := ℕ) (U := UU) (Lvl := ℕ) (Val := Elt F) (τ := τ) osem c : sProp 𝕄)
    = iprop(wSems c ∗ (bigSep Finset.univ fun d : Fin 32 => semVal (sendC c d) 0) ∗ bigSep Finset.univ fun s : Fin 32 => semVal (recvC c s) 0) := by
  unfold Pipeline.ownSems0 wSems
  rw [bigSep_univ_sum, bigSep_univ_sum]
  rfl
theorem unscopedSems0_eq (c : Dev nD) : (unscopedSems0 c : sProp 𝕄) = semVal (barC c) 0 := by
  unfold unscopedSems0; rw [bigSep_eq_bigSepL_of_eq [SemLoc.reg barSem.sem] (by decide +kernel) (by decide)]; rfl

theorem sems_open (c : Dev nD) : sems c ⊢ iprop(unscopedSems0 c ∗ (Pipeline.ownSems0 (Ix := Unit) (Name := ℕ) (U := UU) (Lvl := ℕ) (Val := Elt F) (τ := τ) osem c : sProp 𝕄)) := by
  rw [ownSems0_eq, unscopedSems0_eq]; unfold sems; exact BI.Entails.refl _

theorem sems_cells (c : Dev nD) :
    iprop(Pipeline.ownSems0 (Ix := Unit) (Name := ℕ) (U := UU) (Lvl := ℕ) (Val := Elt F) (τ := τ) osem c ∗ unscopedSems0 c)
      ⊢ iprop(wSems c ∗ (bigSep Finset.univ fun k : CK => semVal (kcell (c, k)) 0 : sProp 𝕄)) := by
  rw [ownSems0_eq, unscopedSems0_eq, bigSep_CK]
  iintro ⟨⟨HW, HS, HR⟩, HB⟩
  isplitl [HW]; · iexact HW
  isplitl [HB]; · iexact HB
  isplitl [HS]; · iexact HS
  iexact HR

/-! ## The global step: every device's cells allocated, the tokens dealt to those who pay with them -/

theorem cell_alloc (c : Dev nD) :
    iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ wSems c) := by
  unfold G
  iintro ⟨Hos, Hus, Hst, Hat, Htok⟩
  ihave Hv := (sems_cells (F := F) c) $$ [Hos Hus]
  · isplitl [Hos] <;> iassumption
  icases Hv with ⟨Hw, Hv⟩
  imod (cell_alloc m c) $$ [Hv Hst] with Hinv
  · isplitl [Hv] <;> iassumption
  imodintro
  isplitl [Hinv]; · iexact Hinv
  isplitl [Hat]; · iexact Hat
  isplitl [Htok]; · iexact Htok
  iexact Hw

/-- A device and a distance, seen from the device at that distance. -/
def turnE : Dev nD × Fin 31 ≃ Dev nD × Fin 31 where
  toFun x := (fwd x.1 x.2, x.2)
  invFun x := (back x.1 x.2, x.2)
  left_inv x := Prod.ext (back_fwd x.1 x.2) rfl
  right_inv x := Prod.ext (fwd_back x.1 x.2) rfl

/-- A family over devices and distances, told from the other end of each distance. -/
theorem bigSep_turn (Φ : Dev nD → Dev nD → Fin 31 → sProp 𝕄) :
    (bigSep Finset.univ fun c : Dev nD => bigSep Finset.univ fun i : Fin 31 => Φ c (back c i) i)
      = bigSep Finset.univ fun c : Dev nD => bigSep Finset.univ fun i : Fin 31 => Φ (fwd c i) c i := by
  rw [← bigSep_univ_prod fun x : Dev nD × Fin 31 => Φ x.1 (back x.1 x.2) x.2,
    ← bigSep_univ_prod fun x : Dev nD × Fin 31 => Φ (fwd x.1 x.2) x.1 x.2,
    bigSep_univ_equiv turnE fun x : Dev nD × Fin 31 => Φ x.1 (back x.1 x.2) x.2]
  refine bigSep_congr fun x _ => ?_
  show Φ (fwd x.1 x.2) (back (fwd x.1 x.2) x.2) x.2 = _
  rw [back_fwd]

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_turn fun c _ i => (dutyTok ER (barC c) 0 i : sProp 𝕄), bigSep_turn fun c s _ => (dutyTok ER (recvC c s) 0 0 : sProp 𝕄)]

theorem positions_intro (c : Dev nD) : (bigSep Finset.univ fun k : CK => atPos ER (kcell (c, k)) 0 ∅ 0) ⊢ (positions c : sProp 𝕄) := by
  unfold positions; rw [bigSep_CK]

/-- Something persistent may be used at every member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records m K ∗ (bigSep Finset.univ fun k : CK => atPos ER (kcell (c, k)) 0 ∅ 0) ∗ payToks c ∗ wSems c) ⊢ G' m c := by
  unfold G' linear
  iintro ⟨HR, Hat, Htk, Hw⟩
  iexists K
  isplitl [HR]; · iexact HR
  isplitl [Hat]; · iapply (positions_intro (F := F) c); iexact Hat
  isplitl [Htk]; · iexact Htk
  iexact Hw

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ wSems c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hw⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_using (R := records m K) fun c _ => ghost_intro m K c)
  isplitr
  · unfold records; isplitl; · iexact HI
    iexact HR
  · rw [bigSep_sep', bigSep_sep']
    isplitl [Hat]; · iexact Hat
    isplitl [Htk]; · iexact Htk
    iexact Hw

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem fund_launch : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb _ _ _) $$ HX
  icases H with ⟨HX, -⟩
  ihave HX := (show BI.own ((Emb.inl.trans embR) (initOf allCells allToks)) ⊢ (BI.own (ER (initOf allCells allToks)) : sProp 𝕄) from BI.Entails.refl _) $$ HX
  imod (fund_cells m) $$ HX with HG
  imodintro
  isplitl [HP] <;> iassumption

end Cert.KernelIdeal.Hand

end
-- ==== Proof.Launch.lean ====
/- The run of the program on the 32 devices, for any float values. -/
module

public import proofs.«01_k».proof.Proof.Alloc
public import Idealize.ShloMosaic.Lib.Pipeline.CollectiveSegs

@[expose] public section

set_option synthInstance.maxSize 4096
set_option maxRecDepth 8000

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit -/

/-- What the other devices pay into device `c`'s cells. -/
def due (c : Dev nD) : CellTallies nD τ sig Unit := tallyAt (barC c) () 31 + ∑ i : Fin 31, tallyAt (recvC c (fwd c i)) () N

theorem sum_ones (g : GSem nD τ sig) (n : ℕ) : (∑ _i : Fin n, tallyAt g () 1) = (tallyAt g () n : CellTallies nD τ sig Unit) := by
  refine funext fun g' => Finsupp.ext fun u => ?_
  rw [Finset.sum_apply, Finsupp.finsetSum_apply]
  simp only [tallyAt_apply]
  by_cases h : g' = g ∧ u = () <;> simp [h]

/-- A sum over devices and distances, told from the other end of each distance. -/
theorem sum_turn (f : Dev nD → Dev nD → Fin 31 → CellTallies nD τ sig Unit) :
    (∑ c : Dev nD, ∑ i : Fin 31, f (fwd c i) c i) = ∑ c : Dev nD, ∑ i : Fin 31, f c (back c i) i := by
  rw [Finset.sum_comm, Finset.sum_comm (f := fun (c : Dev nD) (i : Fin 31) => f c (back c i) i)]
  refine Finset.sum_congr rfl fun i _ => ?_
  rw [← Equiv.sum_comp (ringE i) fun c : Dev nD => f c (back c i) i]
  refine Finset.sum_congr rfl fun c _ => ?_
  show _ = f (fwd c i) (back (fwd c i) i) i
  rw [back_fwd]

theorem sum_due : (∑ d, O₀ d) = ∑ d, due d := by
  have h1 : (∑ d : Dev nD, ∑ i : Fin 31, dueR d i) = ∑ c : Dev nD, ∑ i : Fin 31, (tallyAt (recvC c (fwd c i)) () N : CellTallies nD τ sig Unit) := by
    rw [sum_turn fun c s _ => tallyAt (recvC c s) () N]
    exact Finset.sum_congr rfl fun c _ => Equiv.sum_comp Fin.revPerm fun i : Fin 31 => (tallyAt (recvC c (fwd c i)) () N : CellTallies nD τ sig Unit)
  have h2 : (∑ d : Dev nD, ∑ i : Fin 31, dueB d i) = ∑ c : Dev nD, (tallyAt (barC c) () 31 : CellTallies nD τ sig Unit) := by
    rw [sum_turn fun c _ _ => tallyAt (barC c) () 1]
    exact Finset.sum_congr rfl fun c _ => sum_ones _ _
  unfold O₀ due
  simp only [tail_zero]
  rw [Finset.sum_add_distrib, Finset.sum_add_distrib, h1, h2, add_comm]

theorem due_core (d : Dev nD) (g : GSem nD τ sig) (h : due d g ≠ 0) : g.1 = (d.tc : Thread nD τ) := by
  by_contra hn
  refine h ?_
  unfold due
  rw [Pi.add_apply, Finset.sum_apply, tallyAt_ne_cell (fun e => hn (congrArg Prod.fst e)), Finset.sum_eq_zero, add_zero]
  exact fun i _ => tallyAt_ne_cell (fun e => hn (congrArg Prod.fst e)) _ _

theorem creds (c : Dev nD) : (Pipeline.launchCred O₀ c : sProp 𝕄) ⊢ credits c := by
  rw [Pipeline.launchCred_of_sum O₀ due sum_due due_core c]
  unfold due credits
  refine (cred_add _ _).1.trans ?_
  rw [Pipeline.cred_finsetSum]

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start G'
  isplitl
  · isplitl [HG]; · iexact HG
    isplitl [Hc]; · iexact Hc
    isplitl [Hlev]; · unfold levs; iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What the launch gets back besides the scoped part. -/
def Y (c : Dev nD) : sProp 𝕄 := iprop(unscopedSems0 c ∗ wholeHas c main_arg1 (wIn m c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y
  iintro ⟨Hse, Hs, Hw⟩
  ihave Hz := (sems_open (F := F) c) $$ Hse
  icases Hz with ⟨Hu, Ho⟩
  ihave Hs' := (scratch_open (F := F) c) $$ Hs
  isplitl [Hu Hw]
  · isplitl [Hu]; · iexact Hu
    iexact Hw
  isplitl [Ho]; · iexact Ho
  iexact Hs'

theorem stage_low : ∀ (w : Fin 4) (s : Fin (spec0 w).nbuf), cls (.dma ((spec0 w).sem s)) = none := by decide +kernel

theorem waits (c : Dev nD) : (levAts L lv : sProp 𝕄) ⊢ Pipeline.cellsWaits cfgs (dats m) () 0 c :=
  Pipeline.cellsWaits_intro cfgs (dats m) () 0 c fun w s t =>
    mayWait_low c _ (by unfold lv; rw [show cls _ = none from stage_low w s]) _ (by
      rcases t with ⟨_ | _, ht⟩
      · exact Or.inl rfl
      · exact Or.inr ⟨31, (tail_end _).symm⟩)

/-! ## The run -/

/-- The windows' arrays at the end. -/
def finalA (c : Dev nD) (w : Fin cfg0.W) : Buf (Elt F) ((cfg0.win w).arr.view.loc (c : Thread nD τ)) := (dats m 0 c).arrAt w cfg0.N

/-- Every execution ends with the result at the computed contents, the arguments unchanged, every counter at zero. -/
def QC (r : PUnit × MemSt nD τ sig (Elt F)) : Prop :=
  (∀ c : Dev nD, (∀ w : Fin cfg0.W, r.2.mem ((cfg0.win w).arr.view.loc (c : Thread nD τ)) = finalA m c w)
    ∧ r.2.mem ((c : Thread nD τ).loc main_arg1) = wIn m c) ∧ r.2.sem = fun _ => 0

theorem w_read (c : Dev nD) (s' : Phys nD τ sig (Elt F)) :
    iprop(wholeHas c main_arg1 (wIn m c) ∗ SI s') ⊢ (iprop(⌜s'.mem.mem ((c : Thread nD τ).loc main_arg1) = wIn m c⌝ ∗ SI s') : sProp 𝕄) := by
  iintro ⟨H, HSI⟩
  icombine HSI H gives %h
  isplitr; · ipureintro; exact Buf.eq_of_forall_mem_univ h
  iexact HSI

set_option maxRecDepth 100000 in
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund_launch m)
    (hglob := glob m)
    (hA := fun _ _ => rfl) (hpf := fun _ k => k.elim0)
    (X := start m) (Y := Y m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = wIn m c)
    (hY := fun c s' => by
      unfold Y
      iintro ⟨⟨Hu, Hw⟩, -, HSI⟩
      ihave H := (w_read m c s') $$ [Hw HSI]
      · isplitl [Hw] <;> iassumption
      icases H with ⟨%hw, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hz, hw⟩
      iexact HSI)
    (hQ := fun _ h hs => ⟨fun c => ⟨(h c).1, (h c).2.2.2⟩, sem_eq_zero hs fun c => (h c).2.2.1⟩)

end Cert.KernelIdeal.Hand

end
-- ==== Proof.Value.lean ====
/- What a device's result is at the real numbers, element by element: row `r` and column `l` of device `c`'s result
   hold the product of row `r` of the whole `x` with column `c * 256 + l` of `w`, scaled, and zero where that is
   negative. The kernel comes to it by the chunk that device `r / 128` sends. -/
module

public import proofs.«01_k».proof.Proof.Body
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdeal.Hand

open Cert.KernelIdeal Cert.KernelIdeal.Gen
open Idealize.ShloMosaic Idealize.ShloMosaic.ValueIdx
open Idealize.ShloMosaic.TcCoe
open scoped BigOperators

/-- A chunk at an element: the sum of products, scaled, cut off at zero. -/
theorem pay_apply (v5 : Ideal .f32) (wb : FVec Ideal S4096x256 .f32) (x : FVec Ideal S128x4096 .fp8e4m3) (q : Fin 128) (l : Fin 256) :
    pay v5 wb x (ix2 q l) = max ((∑ k : Fin 4096, x (ix2 q k) * wb (ix2 k l)) * v5) (0 : EReal) := by
  have e := Ideal.matmul_plain_apply (M := 128) (K := 4096) (N := 256) none x (truncf .fp8e4m3 wb bitsLt_fp8e4m3_f32)
    (constant S128x256 .f32 0x00000000#32) q l
  have z : (constant S128x256 .f32 0x00000000#32 : FVec Ideal S128x256 .f32) (ix2 q l) = (0 : EReal) := Ideal.ofBits_zero_f32
  rw [z] at e
  have e' := e.trans (zero_add _)
  exact congrArg₂ max (congrArg (· * v5) e') Ideal.ofBits_zero_f32

/-- The rows of `x` as the kernel holds them: a change of format only. -/
theorem pay2_apply (x : FVec Ideal S128x4096 .f32) (i : S128x4096.Idx) : k0_pay2 (F := Ideal) x i = x i := by
  show shapeCast S128x4096 (truncf .fp8e4m3 (shapeCast S128x4096 x shapeCasts_S128x4096_S128x4096) bitsLt_fp8e4m3_f32)
    shapeCasts_S128x4096_S128x4096 i = x i
  rw [shapeCast_apply _ _ i i rfl]
  exact shapeCast_apply x _ i i rfl

variable (m : (ℓ : Loc nD τ sig) → Buf (Elt Ideal) ℓ) (c : Dev nD)

theorem xIn_eq : xIn m c = m ((c : Thread nD τ).loc main_arg0) :=
  Memref.read_access_unit_zero (Elt Ideal) main_arg0 (funext fun a => by fin_cases a <;> decide) _ _

theorem sxIn_eq : sxIn m c = m ((c : Thread nD τ).loc main_arg2) :=
  Memref.read_access_unit_zero (Elt Ideal) main_arg2 (funext fun a => by fin_cases a <;> decide) _ _

theorem swIn_eq : swIn m c = m ((c : Thread nD τ).loc main_arg3) :=
  Memref.read_access_unit_zero (Elt Ideal) main_arg3 (funext fun a => by fin_cases a <;> decide) _ _

/-- The one index of an array of one element. -/
theorem one_idx (i j : S1.Idx) : i = j := by
  funext a
  fin_cases a
  exact Subsingleton.elim (α := Fin 1) _ _

/-- The kernel's scale is the product of the two scales. -/
theorem scaleOf_eq : scaleOf m c = Scalar.mulf (F := Ideal) (φ := .f32) (sxIn m c (ix1 (0 : Fin 1))) (swIn m c (ix1 (0 : Fin 1))) :=
  congrArg₂ (Scalar.mulf (F := Ideal) (φ := .f32)) (congrArg (sxIn m c) (one_idx _ _)) (congrArg (swIn m c) (one_idx _ _))

/-- Device `s`'s columns of `w`. -/
theorem wCol_apply (s : Fin 32) (k : Fin 4096) (l : Fin 256) :
    wCol m c s (ix2 k l) = wIn m c (ix2 (n0 := 4096) (n1 := 8192) k ⟨s.val * 256 + l.val, by omega⟩) := by
  refine congrArg (wIn m c) (funext fun a => Fin.ext ?_)
  fin_cases a
  · show 0 + 1 * k.val = k.val
    omega
  · show s.val * 256 + 1 * l.val = s.val * 256 + l.val
    omega

/-- The result at an element, by the chunk it is in. -/
theorem outAt_apply (r : Fin 4096) (l : Fin 256) :
    outAt m c (ix2 r l) = V m ⟨r.val / 128, by show r.val / 128 < 32; omega⟩ c (ix2 ⟨r.val % 128, by omega⟩ l) := by
  show shapeCast S4096x256 (landed m c) shapeCasts_S32x128x256_S4096x256 (ix2 r l) = _
  rw [shapeCast_apply (landed m c) _ (ix2 r l) (ix3 (n0 := 32) (n1 := 128) (n2 := 256) ⟨r.val / 128, by omega⟩ ⟨r.val % 128, by omega⟩ l) ?_]
  · refine congrArg (V m _ c) (funext fun a => ?_)
    fin_cases a <;> rfl
  · refine (Shape.rowMajor_val_three (d := ![32, 128, 256]) _).trans (Eq.trans ?_ (Shape.rowMajor_val_two (d := ![4096, 256]) _).symm)
    show (r.val / 128 * 128 + r.val % 128) * 256 + l.val = r.val * 256 + l.val
    omega

/-- Device `c`'s rows of `x` and its copy of `w`, as arrays of their shapes. -/
def xRows : FVec Ideal S128x4096 .f32 := m ((c : Thread nD τ).loc main_arg0)
def wAll : FVec Ideal S4096x8192 .f32 := m ((c : Thread nD τ).loc main_arg1)

/-- The same by what the devices were given. -/
theorem outAt_value (r : Fin 4096) (l : Fin 256) :
    outAt m c (ix2 r l) = max ((∑ k : Fin 4096,
        xRows m ⟨r.val / 128, by show r.val / 128 < 32; omega⟩ (ix2 ⟨r.val % 128, by omega⟩ k)
          * wAll m ⟨r.val / 128, by show r.val / 128 < 32; omega⟩ (ix2 k ⟨c.val * 256 + l.val, by have := c.isLt; change c.val < 32 at this; omega⟩))
        * scaleOf m ⟨r.val / 128, by show r.val / 128 < 32; omega⟩) (0 : EReal) := by
  rw [outAt_apply]
  unfold V
  rw [pay_apply]
  simp only [pay2_apply]
  refine congrArg (fun t : EReal => max (t * _) 0) (Finset.sum_congr rfl fun k _ => ?_)
  exact congrArg₂ (fun a b : EReal => a * b) (congrFun (xIn_eq m _) _) (wCol_apply m _ c k l)

/-! ## Against the reference -/

/-- The reference's result, as its run states it. -/
def refOut (x : FVec Ideal Cert.ReferenceIdeal.S4096x4096 .f32) (w : FVec Ideal Cert.ReferenceIdeal.S4096x8192 .f32)
    (sx sw : FVec Ideal Cert.ReferenceIdeal.S1 .f32) : FVec Ideal Cert.ReferenceIdeal.S4096x8192 .f32 :=
  maximumf (mulf (Host.dotGeneral Cert.ReferenceIdeal.dot_S4096x4096_S4096x8192_S4096x8192_1_0_0_1_n_n none x w)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf sx sw))))
    (broadcastInDim Cert.ReferenceIdeal.S4096x8192 ![] Cert.ReferenceIdeal.Facts₀.bcast_S_S4096x8192 (constant Cert.ReferenceIdeal.S_ .f32 0x00000000#32))

/-- The reference's result at an element. -/
theorem refOut_apply (x : FVec Ideal Cert.ReferenceIdeal.S4096x4096 .f32) (w : FVec Ideal Cert.ReferenceIdeal.S4096x8192 .f32)
    (sx sw : FVec Ideal Cert.ReferenceIdeal.S1 .f32) (r : Fin 4096) (l : Fin 8192) :
    refOut x w sx sw (ix2 r l) = max ((∑ k : Fin 4096, (x (ix2 r k) : EReal) * w (ix2 k l))
      * Scalar.mulf (F := Ideal) (φ := .f32) (sx (ix1 0)) (sw (ix1 0))) (0 : EReal) := by
  have e := StackMember.dotGeneral_plain_apply (m := 4096) (k := 4096) (n := 8192) none x w r l
  have hs : ∀ i : Cert.ReferenceIdeal.S1.Idx, i = ix1 0 := fun i => one_idx _ _
  refine congrArg₂ max (congrArg₂ (fun a b : EReal => a * b) e ?_) Ideal.ofBits_zero_f32
  exact congrArg₂ (Scalar.mulf (F := Ideal) (φ := .f32)) (congrArg sx (hs _)) (congrArg sw (hs _))

/-- Device `c`'s result is its block of columns of the reference's, where the devices were given the blocks of rows of
    `x` and each the whole of `w` and of the scales. -/
theorem outAt_block (x : FVec Ideal Cert.ReferenceIdeal.S4096x4096 .f32) (w : FVec Ideal Cert.ReferenceIdeal.S4096x8192 .f32)
    (sx sw : FVec Ideal Cert.ReferenceIdeal.S1 .f32)
    (h : ∀ d : Dev nD, m ((d : Thread nD τ).loc main_arg0) = Layout.block ⟨2, ![128, 4096]⟩ ⟨2, ![4096, 4096]⟩ 0 32 d x
      ∧ m ((d : Thread nD τ).loc main_arg1) = w ∧ m ((d : Thread nD τ).loc main_arg2) = sx ∧ m ((d : Thread nD τ).loc main_arg3) = sw) :
    outAt m c = Layout.block ⟨2, ![4096, 256]⟩ ⟨2, ![4096, 8192]⟩ 1 32 c (refOut x w sx sw) := by
  funext i
  obtain ⟨r, l, rfl⟩ : ∃ (r : Fin 4096) (l : Fin 256), i = ix2 r l := ⟨i 0, i 1, eq_ix2 i⟩
  have hc : c.val < 32 := c.isLt
  rw [outAt_value, scaleOf_eq, sxIn_eq, swIn_eq]
  unfold xRows wAll
  rw [(h _).1, (h _).2.1, (h _).2.2.1, (h _).2.2.2, Layout.block_apply]
  have hj : ∀ t : Layout.Tiles ⟨2, ![4096, 256]⟩ ⟨2, ![4096, 8192]⟩ 1 32, t.idx c (ix2 r l) = ix2 (n0 := 4096) (n1 := 8192) r ⟨c.val * 256 + l.val, by omega⟩ := fun t => by
    funext a
    fin_cases a <;> exact Fin.ext rfl
  rw [hj, refOut_apply]
  refine congrArg (fun t : EReal => max (t * _) 0) (Finset.sum_congr rfl fun k _ => ?_)
  refine congrArg (fun t : EReal => t * _) (congrArg x (funext fun a => Fin.ext ?_))
  fin_cases a
  · show r.val / 128 * 128 + r.val % 128 = r.val
    omega
  · rfl

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal Cert.KernelIdeal.Gen Cert.KernelIdeal.Hand

section
variable {F : FTy → Type} [FloatOps F]
variable (m : (ℓ : Loc nD τ sig) → Buf (Elt F) ℓ)

/-- No window of an input writes its array. -/
theorem finalA_in (c : Dev nD) (w : Fin cfg0.W) (hw : (cfg0.win w).isOut = false) :
    finalA m c w = m ((cfg0.win w).arr.view.loc (c : Thread nD τ)) :=
  (dats m 0 c).arrAt_in w hw _

/-- The output's one block is its whole array, and holds what the body left. -/
theorem finalA_out (c : Dev nD) : finalA m c (3 : Fin 4) = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (funext fun a => by fin_cases a <;> decide) _ _).symm.trans h

/-- The kernel's run: every device's result, the arguments unchanged, the counters at zero. -/
theorem kernel_run (ρ : Dev nD → PrngReg) :
    θ_run defs (onTc (τ := τ) (main (F := F))) ⟨m, fun _ => 0, ρ⟩ fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun _ h => ⟨fun c => ⟨((h.1 c).1 (3 : Fin 4)).trans (finalA_out m c),
      ((h.1 c).1 (0 : Fin 4)).trans (finalA_in m c (0 : Fin 4) rfl), (h.1 c).2,
      ((h.1 c).1 (1 : Fin 4)).trans (finalA_in m c (1 : Fin 4) rfl),
      ((h.1 c).1 (2 : Fin 4)).trans (finalA_in m c (2 : Fin 4) rfl)⟩, h.2⟩)
    (run_main m ρ)

end

/-- The frame of the kernel at real numbers. -/
theorem frame_ideal : Cert.quiescent_KernelIdeal := fun m ρ _ =>
  (θ_run Cert.KernelIdeal.defs _ _).mono (fun _ h => ⟨fun c => (h.1 c).2, h.2⟩) (kernel_run (F := Ideal) m ρ)

/-- The two programs have one text: the same bodies, -/
theorem bodies_eq : Cert.Kernel.defs₀ (F := Bits) = Cert.KernelIdeal.defs₀ (F := Bits) := by
  unfold Cert.Kernel.defs₀ Cert.KernelIdeal.defs₀
  refine congrArg (Defs.onTc (sig := sig) (Λ := Λ₀)) ?_
  funext l x
  match l, x with
  | 0, (t, s) => rfl

/-- and so the same table of bodies. -/
theorem defs_eq : Cert.Kernel.defs (F := Bits) = Cert.KernelIdeal.defs (F := Bits) :=
  congrArg (Pipeline.defs (Cert.KernelIdeal.pcfgs (F := Bits))) bodies_eq

/-- The frame of the kernel at bits. -/
theorem frame_kernel : Cert.quiescent_Kernel := by
  intro m ρ _
  rw [defs_eq]
  exact (θ_run Cert.KernelIdeal.defs _ _).mono (fun _ h => ⟨fun c => (h.1 c).2, h.2⟩) (kernel_run (F := Bits) m ρ)

/-- The frame of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c`'s result is its block of the reference's. -/
theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · exact (θ_run Cert.KernelIdeal.defs _ _).mono
      (fun _ h c => ⟨(h.1 c).1.trans (outAt_block m c _ _ _ _ hagree), (h.1 c).2⟩) (kernel_run (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
